-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryIdeal_finite_query [hPre_finite_query : Cert.Pre_finite_query.Facts] (m : (ℓ : Loc Cert.QueryIdeal.nD Cert.QueryIdeal.τ Cert.QueryIdeal.sig) → Buf (Elt Ideal) ℓ) : Prop :=
  ∀ c : Dev Cert.QueryIdeal.nD,
    (Cert.Pre_finite_query.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1))) = (fun _ => 1#1)

def Pre_QueryReferenceIdeal (m : (ℓ : Loc Cert.QueryReferenceIdeal.nD Cert.QueryReferenceIdeal.τ Cert.QueryReferenceIdeal.sig) → Buf (Elt Ideal) ℓ) : Prop :=
  True

def Pre_QueryReferenceIdeal_finite_query [hPre_finite_query : Cert.Pre_finite_query.Facts] (m : (ℓ : Loc Cert.QueryReferenceIdeal.nD Cert.QueryReferenceIdeal.τ Cert.QueryReferenceIdeal.sig) → Buf (Elt Ideal) ℓ) : Prop :=
  ∀ c : Dev Cert.QueryReferenceIdeal.nD,
    (Cert.Pre_finite_query.fn (F := Ideal) (m ((c.tc : Thread Cert.QueryReferenceIdeal.nD Cert.QueryReferenceIdeal.τ).loc Cert.QueryReferenceIdeal.main_arg0)) (m ((c.tc : Thread Cert.QueryReferenceIdeal.nD Cert.QueryReferenceIdeal.τ).loc Cert.QueryReferenceIdeal.main_arg1))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_finite_scores [hPre_finite_scores : Cert.Pre_finite_scores.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_finite_scores.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_finite_scores [hPre_finite_scores : Cert.Pre_finite_scores.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_finite_scores.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryIdeal_pre_finite_query [hQueryIdeal : Cert.QueryIdeal.Facts] [hPre_finite_query : Cert.Pre_finite_query.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal_finite_query m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_QueryReferenceIdeal_pre_finite_query [hQueryReferenceIdeal : Cert.QueryReferenceIdeal.Facts] [hPre_finite_query : Cert.Pre_finite_query.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal_finite_query m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ r.2.sem = fun _ => 0)

def quiescent_ScoresIdeal_pre_finite_scores [hScoresIdeal : Cert.ScoresIdeal.Facts] [hPre_finite_scores : Cert.Pre_finite_scores.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_finite_scores m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1))
      ∧ r.2.sem = fun _ => 0)

def quiescent_ScoresReferenceIdeal_pre_finite_scores [hScoresReferenceIdeal : Cert.ScoresReferenceIdeal.Facts] [hPre_finite_scores : Cert.Pre_finite_scores.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_finite_scores m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v8)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v8) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v7) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v29)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v29) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v58) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v83) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Query_QueryIdeal : Prop :=
  True

def algebraic_QueryIdeal_QueryReferenceIdeal_pre_finite_query [hQueryIdeal : Cert.QueryIdeal.Facts] [hQueryReferenceIdeal : Cert.QueryReferenceIdeal.Facts] [hPre_finite_query : Cert.Pre_finite_query.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal_finite_query m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v5)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v5) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v1) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v50) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v11)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v11) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v55) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Scores_ScoresIdeal : Prop :=
  True

def algebraic_ScoresIdeal_ScoresReferenceIdeal_pre_finite_scores [hScoresIdeal : Cert.ScoresIdeal.Facts] [hScoresReferenceIdeal : Cert.ScoresReferenceIdeal.Facts] [hPre_finite_scores : Cert.Pre_finite_scores.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal_finite_scores m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)) →
    ∃ (v0 : (c : Dev Cert.ScoresIdeal.nD) → Buf (Elt Ideal) ((c.tc : Thread Cert.ScoresIdeal.nD Cert.ScoresIdeal.τ).loc Cert.ScoresIdeal.main_v5_0)) (v1 : (c : Dev Cert.ScoresIdeal.nD) → Buf (Elt Ideal) ((c.tc : Thread Cert.ScoresIdeal.nD Cert.ScoresIdeal.τ).loc Cert.ScoresIdeal.main_v5_2)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v5_0) = v0 c
          ∧ r.2.mem ((c.tc : Thread Cert.ScoresIdeal.nD Cert.ScoresIdeal.τ).loc Cert.ScoresIdeal.main_v5_2) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v6) = v0 c
          ∧ r.2.mem ((c.tc : Thread Cert.ScoresReferenceIdeal.nD Cert.ScoresReferenceIdeal.τ).loc Cert.ScoresReferenceIdeal.main_v15) = v1 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hRope : Cert.Rope.Facts) (hRopeIdeal : Cert.RopeIdeal.Facts) (hRopeReferenceIdeal : Cert.RopeReferenceIdeal.Facts) (hMerge : Cert.Merge.Facts) (hMergeIdeal : Cert.MergeIdeal.Facts) (hMergeReferenceIdeal : Cert.MergeReferenceIdeal.Facts) (hQuery : Cert.Query.Facts) (hQueryIdeal : Cert.QueryIdeal.Facts) (hQueryReferenceIdeal : Cert.QueryReferenceIdeal.Facts) (hConv : Cert.Conv.Facts) (hConvIdeal : Cert.ConvIdeal.Facts) (hConvReferenceIdeal : Cert.ConvReferenceIdeal.Facts) (hExperts : Cert.Experts.Facts) (hExpertsIdeal : Cert.ExpertsIdeal.Facts) (hExpertsReferenceIdeal : Cert.ExpertsReferenceIdeal.Facts) (hScores : Cert.Scores.Facts) (hScoresIdeal : Cert.ScoresIdeal.Facts) (hScoresReferenceIdeal : Cert.ScoresReferenceIdeal.Facts) (hPre_finite : Cert.Pre_finite.Facts) (hPre_finite_query : Cert.Pre_finite_query.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Query (hQuery := hQuery)
    ∧ quiescent_QueryIdeal (hQueryIdeal := hQueryIdeal)
    ∧ quiescent_QueryIdeal_pre_finite_query (hQueryIdeal := hQueryIdeal) (hPre_finite_query := hPre_finite_query)
    ∧ quiescent_QueryReferenceIdeal (hQueryReferenceIdeal := hQueryReferenceIdeal)
    ∧ quiescent_QueryReferenceIdeal_pre_finite_query (hQueryReferenceIdeal := hQueryReferenceIdeal) (hPre_finite_query := hPre_finite_query)
    ∧ quiescent_Conv (hConv := hConv)
    ∧ quiescent_ConvIdeal (hConvIdeal := hConvIdeal)
    ∧ quiescent_ConvReferenceIdeal (hConvReferenceIdeal := hConvReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Scores (hScores := hScores)
    ∧ quiescent_ScoresIdeal (hScoresIdeal := hScoresIdeal)
    ∧ quiescent_ScoresIdeal_pre_finite_scores (hScoresIdeal := hScoresIdeal) (hPre_finite_scores := hPre_finite_scores)
    ∧ quiescent_ScoresReferenceIdeal (hScoresReferenceIdeal := hScoresReferenceIdeal)
    ∧ quiescent_ScoresReferenceIdeal_pre_finite_scores (hScoresReferenceIdeal := hScoresReferenceIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal (hProjectIdeal := hProjectIdeal) (hProjectReferenceIdeal := hProjectReferenceIdeal)
    ∧ preserves_Rope_RopeIdeal
    ∧ algebraic_RopeIdeal_RopeReferenceIdeal (hRopeIdeal := hRopeIdeal) (hRopeReferenceIdeal := hRopeReferenceIdeal)
    ∧ preserves_Merge_MergeIdeal
    ∧ algebraic_MergeIdeal_MergeReferenceIdeal (hMergeIdeal := hMergeIdeal) (hMergeReferenceIdeal := hMergeReferenceIdeal)
    ∧ preserves_Query_QueryIdeal
    ∧ algebraic_QueryIdeal_QueryReferenceIdeal_pre_finite_query (hQueryIdeal := hQueryIdeal) (hQueryReferenceIdeal := hQueryReferenceIdeal) (hPre_finite_query := hPre_finite_query)
    ∧ preserves_Conv_ConvIdeal
    ∧ algebraic_ConvIdeal_ConvReferenceIdeal (hConvIdeal := hConvIdeal) (hConvReferenceIdeal := hConvReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Scores_ScoresIdeal
    ∧ algebraic_ScoresIdeal_ScoresReferenceIdeal_pre_finite_scores (hScoresIdeal := hScoresIdeal) (hScoresReferenceIdeal := hScoresReferenceIdeal) (hPre_finite_scores := hPre_finite_scores)
-- ==== Pre_finite.lean ====
abbrev S16384x1536 : Shape := ⟨2, ![16384, 1536]⟩
abbrev S1x4x64 : Shape := ⟨3, ![1, 4, 64]⟩
abbrev S1x128 : Shape := ⟨2, ![1, 128]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S1x4x64 : S_.BroadcastsInDim S1x4x64 (![] : Fin 0 → Fin S1x4x64.rank)
  reducesTo_S1x4x64_S_d0_1_2 : S1x4x64.ReducesTo [0, 1, 2] S_

variable [Facts]

def fn {F : FTy → Type} [FloatOps F] (main_arg0 : FVec F S16384x1536 .bf16) (main_arg1 : FVec F S1x4x64 .f32) (main_arg2 : FVec F S1x128 .f32) : IVec S_ 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S1x4x64 .f32 := Host.absf main_arg1
  let main_cst_0 : FVec F S_ .f32 := constant S_ .f32 0x7F800000#32
  let main_v6 : FVec F S1x4x64 .f32 := broadcastInDim S1x4x64 ![] bcast_S_S1x4x64 main_cst_0
  let main_v7 : IVec S1x4x64 1 := cmpf .olt main_v5 main_v6
  let main_c_1 : IVec S_ 1 := constantI S_ 1 1#1
  let main_v8 : IVec S_ 1 := (fun x v => Host.reduce IntOp.andi x v reducesTo_S1x4x64_S_d0_1_2 h_S_) main_v7 main_c_1
  let main_v9 : IVec S_ 1 := andi main_v4 main_v8
  main_v9
-- ==== Pre_finite_query.lean ====
abbrev S16384x1024 : Shape := ⟨2, ![16384, 1024]⟩
abbrev S1x1024x2048 : Shape := ⟨3, ![1, 1024, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn {F : FTy → Type} [FloatOps F] (main_arg0 : FVec F S16384x1024 .f32) (main_arg1 : FVec F S1x1024x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024x2048 .f32 := Host.absf main_arg1
  let main_cst_0 : FVec F S_ .f32 := constant S_ .f32 0x7F800000#32
  let main_v5 : FVec F S1x1024x2048 .f32 := broadcastInDim S1x1024x2048 ![] bcast_S_S1x1024x2048 main_cst_0
  let main_v6 : IVec S1x1024x2048 1 := cmpf .olt main_v4 main_v5
  let main_c_1 : IVec S_ 1 := constantI S_ 1 1#1
  let main_v7 : IVec S_ 1 := (fun x v => Host.reduce IntOp.andi x v reducesTo_S1x1024x2048_S_d0_1_2 h_S_) main_v6 main_c_1
  let main_v8 : IVec S_ 1 := andi main_v3 main_v7
  main_v8
-- ==== Pre_finite_scores.lean ====
abbrev S16384x2048 : Shape := ⟨2, ![16384, 2048]⟩
abbrev S1x2x128x128 : Shape := ⟨4, ![1, 2, 128, 128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2x128x128 : S_.BroadcastsInDim S1x2x128x128 (![] : Fin 0 → Fin S1x2x128x128.rank)
  reducesTo_S1x2x128x128_S_d0_1_2_3 : S1x2x128x128.ReducesTo [0, 1, 2, 3] S_

variable [Facts]

def fn {F : FTy → Type} [FloatOps F] (main_arg0 : FVec F S16384x2048 .f32) (main_arg1 : FVec F S1x2x128x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2x128x128 .f32 := Host.absf main_arg1
  let main_cst_0 : FVec F S_ .f32 := constant S_ .f32 0x7F800000#32
  let main_v5 : FVec F S1x2x128x128 .f32 := broadcastInDim S1x2x128x128 ![] bcast_S_S1x2x128x128 main_cst_0
  let main_v6 : IVec S1x2x128x128 1 := cmpf .olt main_v4 main_v5
  let main_c_1 : IVec S_ 1 := constantI S_ 1 1#1
  let main_v7 : IVec S_ 1 := (fun x v => Host.reduce IntOp.andi x v reducesTo_S1x2x128x128_S_d0_1_2_3 h_S_) main_v6 main_c_1
  let main_v8 : IVec S_ 1 := andi main_v3 main_v7
  main_v8
-- ==== Kernel.lean ====
abbrev S16384x1536 : Shape := ⟨2, ![16384, 1536]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S16384x512 : Shape := ⟨2, ![16384, 512]⟩
abbrev S512x128 : Shape := ⟨2, ![512, 128]⟩
abbrev S8192x128 : Shape := ⟨2, ![8192, 128]⟩
abbrev S2x512x1 : Shape := ⟨3, ![2, 512, 1]⟩
abbrev S2x512x256 : Shape := ⟨3, ![2, 512, 256]⟩
abbrev S512x256 : Shape := ⟨2, ![512, 256]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S1x64 : Shape := ⟨2, ![1, 64]⟩
abbrev S1 : Shape := ⟨1, ![1]⟩
abbrev S1x1 : Shape := ⟨2, ![1, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x1536, .bf16⟩
  | .hbm, ⟨1, _⟩ => ⟨S1x4x64, .f32⟩
  | .hbm, ⟨2, _⟩ => ⟨S1x128, .f32⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x512, .f32⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S512x128, .f32⟩
  | .local _ .vmem, ⟨9, _⟩ => ⟨S512x128, .f32⟩
  | .local _ .vmem, ⟨10, _⟩ => ⟨S2x512x1, .f32⟩
  | .local _ .vmem, ⟨11, _⟩ => ⟨S2x512x256, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32_8 : BitVec 32 := 0#32
  let c16_i32 : BitVec 32 := 16#32
  let v15 : BitVec 32 := Scalar.addi c0_i32_8 c16_i32
  let c1_i32 : BitVec 32 := 1#32
  ⟨c0_i32_8, v15, c1_i32⟩
def k0_mult1 (k0_t1 : Fin k0_t1_loop.trips) : BitVec 32 :=
  let c0_i32_8 : BitVec 32 := 0#32
  let c1_i32 : BitVec 32 := 1#32
  let arg11 : BitVec 32 := Scf.iv c0_i32_8 c1_i32 k0_t1
  let c512_i32 : BitVec 32 := 512#32
  let v65 : BitVec 32 := Scalar.muli arg11 c512_i32
  v65
def k0_off1 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let c512_i32 : BitVec 32 := 512#32
  let v65 : BitVec 32 := Scalar.muli arg11 c512_i32
  let v66 : BitVec 32 := v65
  let v67 : Index := Scalar.indexCast v66
  let c0_28 : Index := 0#32
  ![v67.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1536 : Shape := ⟨2, ![16384, 1536]⟩
abbrev S1x4x64 : Shape := ⟨3, ![1, 4, 64]⟩
abbrev S1x128 : Shape := ⟨2, ![1, 128]⟩
abbrev S16384x512 : Shape := ⟨2, ![16384, 512]⟩
abbrev S2x8192x4x2x64 : Shape := ⟨5, ![2, 8192, 4, 2, 64]⟩
abbrev S2x4x2x8192x64 : Shape := ⟨5, ![2, 4, 2, 8192, 64]⟩
abbrev S2x8192x4x128 : Shape := ⟨4, ![2, 8192, 4, 128]⟩
abbrev S2x4x8192x128 : Shape := ⟨4, ![2, 4, 8192, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S1x4x64, .f32⟩
  | .hbm, ⟨2, _⟩ => ⟨S1x128, .f32⟩
  | .hbm, ⟨3, _⟩ => ⟨S16384x1536, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S2x8192x4x2x64, .f32⟩
  | .hbm, ⟨8, _⟩ => ⟨S2x4x2x8192x64, .f32⟩
  | .hbm, ⟨9, _⟩ => ⟨S2x8192x4x2x64, .f32⟩
  | .hbm, ⟨10, _⟩ => ⟨S2x4x2x8192x64, .f32⟩
  | .hbm, ⟨11, _⟩ => ⟨S2x8192x4x128, .f32⟩
  | .hbm, ⟨12, _⟩ => ⟨S2x4x8192x128, .f32⟩
  | .hbm, ⟨13, _⟩ => ⟨S4x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x4x2x8192x8192, .f32⟩
  | .hbm, ⟨34, _⟩ => ⟨S_, .f32⟩
  | .hbm, ⟨35, _⟩ => ⟨S2x4x2x8192, .f32⟩
  | .hbm, ⟨36, _⟩ => ⟨S_, .f32⟩
  | .hbm, ⟨37, _⟩ => ⟨S2x4x2x8192, .f32⟩
  | .hbm, ⟨38, _⟩ => ⟨S2x4x2x8192, .f32⟩
  | .hbm, ⟨39, _⟩ => ⟨S2x4x2x8192x1, .f32⟩
  | .hbm, ⟨40, _⟩ => ⟨S2x4x2x8192x8192, .f32⟩
  | .hbm, ⟨41, _⟩ => ⟨S2x4x2x8192x8192, .f32⟩
  | .hbm, ⟨42, _⟩ => ⟨S2x4x2x8192x8192, .f32⟩
  | .hbm, ⟨43, _⟩ => ⟨S_, .f32⟩
  | .hbm, ⟨44, _⟩ => ⟨S2x4x2x8192, .f32⟩
  | .hbm, ⟨45, _⟩ => ⟨S2x4x2x8192x1, .f32⟩
  | .hbm, ⟨46, _⟩ => ⟨S2x4x2x8192x8192, .f32⟩
  | .hbm, ⟨47, _⟩ => ⟨S2x4x2x8192x8192, .f32⟩
  | .hbm, ⟨48, _⟩ => ⟨S2x4x1x8192x8192, .f32⟩
  | .hbm, ⟨49, _⟩ => ⟨S2x4x8192x8192, .f32⟩
  | .hbm, ⟨50, _⟩ => ⟨S2x4x1x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x128, .f32⟩
  | .hbm, ⟨56, _⟩ => ⟨S2x8192x4x128, .f32⟩
  | .hbm, ⟨57, _⟩ => ⟨S2x8192x4x128, .f32⟩
  | .hbm, ⟨58, _⟩ => ⟨S_, .f32⟩
  | .hbm, ⟨59, _⟩ => ⟨S2x8192x4, .f32⟩
  | .hbm, ⟨60, _⟩ => ⟨S2x8192x4x1, .f32⟩
  | .hbm, ⟨61, _⟩ => ⟨S_, .f32⟩
  | .hbm, ⟨62, _⟩ => ⟨S2x8192x4x1, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S2x8192x4x1, .f32⟩
  | .hbm, ⟨68, _⟩ => ⟨S2x8192x4x128, .f32⟩
  | .hbm, ⟨69, _⟩ => ⟨S2x8192x4x128, .f32⟩
  | .hbm, ⟨70, _⟩ => ⟨S128, .f32⟩
  | .hbm, ⟨71, _⟩ => ⟨S1x1x1x128, .f32⟩
  | .hbm, ⟨72, _⟩ => ⟨S2x8192x4x128, .f32⟩
  | .hbm, ⟨73, _⟩ => ⟨S2x8192x4x128, .f32⟩
  | .hbm, ⟨74, _⟩ => ⟨S_, .f32⟩
  | .hbm, ⟨75, _⟩ => ⟨S2x8192x4x128, .f32⟩
  | .hbm, ⟨76, _⟩ => ⟨S2x8192x4x128, .f32⟩
  | .hbm, ⟨77, _⟩ => ⟨S16384x512, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Project.lean ====
abbrev S2x8192x1024 : Shape := ⟨3, ![2, 8192, 1024]⟩
abbrev S1x1024x5648 : Shape := ⟨3, ![1, 1024, 5648]⟩
abbrev S16384x1024 : Shape := ⟨2, ![16384, 1024]⟩
abbrev S1024x5648 : Shape := ⟨2, ![1024, 5648]⟩
abbrev S_ : Shape := ⟨0, ![]⟩
abbrev S1024x112 : Shape := ⟨2, ![1024, 112]⟩
abbrev S1024x2048 : Shape := ⟨2, ![1024, 2048]⟩
abbrev S1024x3584 : Shape := ⟨2, ![1024, 3584]⟩
abbrev S1024x16 : Shape := ⟨2, ![1024, 16]⟩
abbrev S1024x5760 : Shape := ⟨2, ![1024, 5760]⟩
abbrev S16384x5760 : Shape := ⟨2, ![16384, 5760]⟩
abbrev S512x1024 : Shape := ⟨2, ![512, 1024]⟩
abbrev S1024x1152 : Shape := ⟨2, ![1024, 1152]⟩
abbrev S512x1152 : Shape := ⟨2, ![512, 1152]⟩

abbrev nBuf : Space → Nat
  | .hbm => 12
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5648, .f32⟩
  | .hbm, ⟨2, _⟩ => ⟨S16384x1024, .f32⟩
  | .hbm, ⟨3, _⟩ => ⟨S1024x5648, .f32⟩
  | .hbm, ⟨4, _⟩ => ⟨S_, .f32⟩
  | .hbm, ⟨5, _⟩ => ⟨S1024x112, .f32⟩
  | .hbm, ⟨6, _⟩ => ⟨S1024x2048, .f32⟩
  | .hbm, ⟨7, _⟩ => ⟨S1024x3584, .f32⟩
  | .hbm, ⟨8, _⟩ => ⟨S1024x16, .f32⟩
  | .hbm, ⟨9, _⟩ => ⟨S1024x5760, .f32⟩
  | .hbm, ⟨10, _⟩ => ⟨S1024x5760, .bf16⟩
  | .hbm, ⟨11, _⟩ => ⟨S16384x5760, .f32⟩
  | .local _ .vmem, ⟨0, _⟩ => ⟨S512x1024, .f32⟩
  | .local _ .vmem, ⟨1, _⟩ => ⟨S512x1024, .f32⟩
  | .local _ .vmem, ⟨2, _⟩ => ⟨S1024x1152, .bf16⟩
  | .local _ .vmem, ⟨3, _⟩ => ⟨S1024x1152, .bf16⟩
  | .local _ .vmem, ⟨4, _⟩ => ⟨S512x1152, .f32⟩
  | .local _ .vmem, ⟨5, _⟩ => ⟨S512x1152, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S2x8192x1024 : Shape := ⟨3, ![2, 8192, 1024]⟩
abbrev S1x1024x5648 : Shape := ⟨3, ![1, 1024, 5648]⟩
abbrev S1024x5648 : Shape := ⟨2, ![1024, 5648]⟩
abbrev S2x8192x5648 : Shape := ⟨3, ![2, 8192, 5648]⟩
abbrev S2x8192x3584 : Shape := ⟨3, ![2, 8192, 3584]⟩
abbrev S2x8192x16 : Shape := ⟨3, ![2, 8192, 16]⟩
abbrev S2x8192x2048 : Shape := ⟨3, ![2, 8192, 2048]⟩
abbrev S_ : Shape := ⟨0, ![]⟩
abbrev S2x8192x112 : Shape := ⟨3, ![2, 8192, 112]⟩
abbrev S2x8192x5760 : Shape := ⟨3, ![2, 8192, 5760]⟩
abbrev S16384x5760 : Shape := ⟨2, ![16384, 5760]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5648, .f32⟩
  | .hbm, ⟨2, _⟩ => ⟨S1024x5648, .f32⟩
  | .hbm, ⟨3, _⟩ => ⟨S2x8192x5648, .f32⟩
  | .hbm, ⟨4, _⟩ => ⟨S2x8192x3584, .f32⟩
  | .hbm, ⟨5, _⟩ => ⟨S2x8192x16, .f32⟩
  | .hbm, ⟨6, _⟩ => ⟨S2x8192x2048, .f32⟩
  | .hbm, ⟨7, _⟩ => ⟨S_, .f32⟩
  | .hbm, ⟨8, _⟩ => ⟨S2x8192x112, .f32⟩
  | .hbm, ⟨9, _⟩ => ⟨S2x8192x5760, .f32⟩
  | .hbm, ⟨10, _⟩ => ⟨S16384x5760, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Rope.lean ====
abbrev S16384x5760 : Shape := ⟨2, ![16384, 5760]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S16384x1536 : Shape := ⟨2, ![16384, 1536]⟩
abbrev S512x512 : Shape := ⟨2, ![512, 512]⟩
abbrev S512x128 : Shape := ⟨2, ![512, 128]⟩
abbrev S512x1536 : Shape := ⟨2, ![512, 1536]⟩

abbrev nBuf : Space → Nat
  | .hbm => 38
  | .vmem => 14
  | .smem => 0
  | _ => 0

abbrev bufTy : (tb : Table) → Fin (tcTables nBuf tb) → BufTy
  | .hbm, ⟨0, _⟩ => ⟨S16384x5760, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x48, .f32⟩
  | .hbm, ⟨25, _⟩ => ⟨S_, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S8192x48, .f32⟩
  | .hbm, ⟨30, _⟩ => ⟨S8192x64, .f32⟩
  | .hbm, ⟨31, _⟩ => ⟨S8192x8, .f32⟩
  | .hbm, ⟨32, _⟩ => ⟨S8192x64, .f32⟩
  | .hbm, ⟨33, _⟩ => ⟨S8192x64, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S16384x1536, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1536, .bf16⟩
  | .local _ .vmem, ⟨13, _⟩ => ⟨S512x1536, .bf16⟩
  | _, _ => ⟨S16384x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopeReferenceIdeal.lean ====
abbrev S16384x5760 : Shape := ⟨2, ![16384, 5760]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S16384x512 : Shape := ⟨2, ![16384, 512]⟩
abbrev S2x8192x4x2x64 : Shape := ⟨5, ![2, 8192, 4, 2, 64]⟩
abbrev S2x8192x4x2x8 : Shape := ⟨5, ![2, 8192, 4, 2, 8]⟩
abbrev S2x8192x4x2x48 : Shape := ⟨5, ![2, 8192, 4, 2, 48]⟩
abbrev S16384x1536 : Shape := ⟨2, ![16384, 1536]⟩

abbrev nBuf : Space → Nat
  | .hbm => 65
  | .vmem => 0
  | .smem => 0
  | _ => 0

abbrev bufTy : (tb : Table) → Fin (tcTables nBuf tb) → BufTy
  | .hbm, ⟨0, _⟩ => ⟨S16384x5760, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S1x8192x1x1x8, .f32⟩
  | .hbm, ⟨24, _⟩ => ⟨S1x8192x1x1x8, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S2x8192x4x2x64, .f32⟩
  | .hbm, ⟨29, _⟩ => ⟨S2x8192x4x2x8, .f32⟩
  | .hbm, ⟨30, _⟩ => ⟨S2x8192x4x2x8, .f32⟩
  | .hbm, ⟨31, _⟩ => ⟨S2x8192x4x2x8, .f32⟩
  | .hbm, ⟨32, _⟩ => ⟨S2x8192x4x2x8, .f32⟩
  | .hbm, ⟨33, _⟩ => ⟨S2x8192x4x2x8, .f32⟩
  | .hbm, ⟨34, _⟩ => ⟨S2x8192x4x2x8, .f32⟩
  | .hbm, ⟨35, _⟩ => ⟨S2x8192x4x2x8, .f32⟩
  | .hbm, ⟨36, _⟩ => ⟨S2x8192x4x2x8, .f32⟩
  | .hbm, ⟨37, _⟩ => ⟨S2x8192x4x2x8, .f32⟩
  | .hbm, ⟨38, _⟩ => ⟨S2x8192x4x2x8, .f32⟩
  | .hbm, ⟨39, _⟩ => ⟨S2x8192x4x2x8, .f32⟩
  | .hbm, ⟨40, _⟩ => ⟨S2x8192x4x2x8, .f32⟩
  | .hbm, ⟨41, _⟩ => ⟨S2x8192x4x2x48, .f32⟩
  | .hbm, ⟨42, _⟩ => ⟨S2x8192x4x2x64, .f32⟩
  | .hbm, ⟨43, _⟩ => ⟨S_, .f32⟩
  | .hbm, ⟨44, _⟩ => ⟨S2x8192x4x2x64, .f32⟩
  | .hbm, ⟨45, _⟩ => ⟨S2x8192x4x2x64, .f32⟩
  | .hbm, ⟨46, _⟩ => ⟨S16384x512, .f32⟩
  | .hbm, ⟨47, _⟩ => ⟨S2x8192x4x2x64, .f32⟩
  | .hbm, ⟨48, _⟩ => ⟨S2x8192x4x2x8, .f32⟩
  | .hbm, ⟨49, _⟩ => ⟨S2x8192x4x2x8, .f32⟩
  | .hbm, ⟨50, _⟩ => ⟨S2x8192x4x2x8, .f32⟩
  | .hbm, ⟨51, _⟩ => ⟨S2x8192x4x2x8, .f32⟩
  | .hbm, ⟨52, _⟩ => ⟨S2x8192x4x2x8, .f32⟩
  | .hbm, ⟨53, _⟩ => ⟨S2x8192x4x2x8, .f32⟩
  | .hbm, ⟨54, _⟩ => ⟨S2x8192x4x2x8, .f32⟩
  | .hbm, ⟨55, _⟩ => ⟨S2x8192x4x2x8, .f32⟩
  | .hbm, ⟨56, _⟩ => ⟨S2x8192x4x2x8, .f32⟩
  | .hbm, ⟨57, _⟩ => ⟨S2x8192x4x2x8, .f32⟩
  | .hbm, ⟨58, _⟩ => ⟨S2x8192x4x2x8, .f32⟩
  | .hbm, ⟨59, _⟩ => ⟨S2x8192x4x2x8, .f32⟩
  | .hbm, ⟨60, _⟩ => ⟨S2x8192x4x2x48, .f32⟩
  | .hbm, ⟨61, _⟩ => ⟨S2x8192x4x2x64, .f32⟩
  | .hbm, ⟨62, _⟩ => ⟨S16384x512, .f32⟩
  | .hbm, ⟨63, _⟩ => ⟨S16384x1536, .f32⟩
  | .hbm, ⟨64, _⟩ => ⟨S16384x1536, .bf16⟩
  | _, _ => ⟨S16384x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_3 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Merge.lean ====
abbrev S2x8192x1024 : Shape := ⟨3, ![2, 8192, 1024]⟩
abbrev S16384x512 : Shape := ⟨2, ![16384, 512]⟩
abbrev S16384x5760 : Shape := ⟨2, ![16384, 5760]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16384x1024 : Shape := ⟨2, ![16384, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 25
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x5760, .f32⟩
  | .hbm, ⟨5, _⟩ => ⟨S1x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1024, .f32⟩
  | .hbm, ⟨21, _⟩ => ⟨S1x512, .f32⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S2x8192x1024 : Shape := ⟨3, ![2, 8192, 1024]⟩
abbrev S16384x512 : Shape := ⟨2, ![16384, 512]⟩
abbrev S16384x5760 : Shape := ⟨2, ![16384, 5760]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S16384x2048 : Shape := ⟨2, ![16384, 2048]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S512 : Shape := ⟨1, ![512]⟩
abbrev S16384x2x1024 : Shape := ⟨3, ![16384, 2, 1024]⟩
abbrev S16384x1x1024 : Shape := ⟨3, ![16384, 1, 1024]⟩
abbrev S16384x1024 : Shape := ⟨2, ![16384, 1024]⟩
abbrev S512x1024 : Shape := ⟨2, ![512, 1024]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x5760, .f32⟩
  | .hbm, ⟨5, _⟩ => ⟨S1x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S16384x2048, .f32⟩
  | .hbm, ⟨12, _⟩ => ⟨S16384x512, .f32⟩
  | .hbm, ⟨13, _⟩ => ⟨S16384x512, .f32⟩
  | .hbm, ⟨14, _⟩ => ⟨S16384x4x128, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S16384x4x128, .f32⟩
  | .hbm, ⟨22, _⟩ => ⟨S16384x4x128, .f32⟩
  | .hbm, ⟨23, _⟩ => ⟨S16384x4x128, .f32⟩
  | .hbm, ⟨24, _⟩ => ⟨S_, .f32⟩
  | .hbm, ⟨25, _⟩ => ⟨S16384x4, .f32⟩
  | .hbm, ⟨26, _⟩ => ⟨S16384x4x1, .f32⟩
  | .hbm, ⟨27, _⟩ => ⟨S_, .f32⟩
  | .hbm, ⟨28, _⟩ => ⟨S16384x4x1, .f32⟩
  | .hbm, ⟨29, _⟩ => ⟨S16384x4x1, .f32⟩
  | .hbm, ⟨30, _⟩ => ⟨S16384x4x128, .f32⟩
  | .hbm, ⟨31, _⟩ => ⟨S16384x4x128, .f32⟩
  | .hbm, ⟨32, _⟩ => ⟨S_, .f32⟩
  | .hbm, ⟨33, _⟩ => ⟨S16384x4x1, .f32⟩
  | .hbm, ⟨34, _⟩ => ⟨S16384x4x1, .f32⟩
  | .hbm, ⟨35, _⟩ => ⟨S16384x4x1, .f32⟩
  | .hbm, ⟨36, _⟩ => ⟨S16384x4x128, .f32⟩
  | .hbm, ⟨37, _⟩ => ⟨S16384x4x128, .f32⟩
  | .hbm, ⟨38, _⟩ => ⟨S16384x512, .f32⟩
  | .hbm, ⟨39, _⟩ => ⟨S512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x2x1024, .f32⟩
  | .hbm, ⟨53, _⟩ => ⟨S16384x2x1024, .f32⟩
  | .hbm, ⟨54, _⟩ => ⟨S16384x2x1024, .f32⟩
  | .hbm, ⟨55, _⟩ => ⟨S_, .f32⟩
  | .hbm, ⟨56, _⟩ => ⟨S16384x2x1024, .f32⟩
  | .hbm, ⟨57, _⟩ => ⟨S16384x2x1024, .f32⟩
  | .hbm, ⟨58, _⟩ => ⟨S_, .f32⟩
  | .hbm, ⟨59, _⟩ => ⟨S16384x2x1024, .f32⟩
  | .hbm, ⟨60, _⟩ => ⟨S16384x2x1024, .f32⟩
  | .hbm, ⟨61, _⟩ => ⟨S16384x1x1024, .f32⟩
  | .hbm, ⟨62, _⟩ => ⟨S16384x1024, .f32⟩
  | .hbm, ⟨63, _⟩ => ⟨S512x1024, .f32⟩
  | .hbm, ⟨64, _⟩ => ⟨S16384x1024, .f32⟩
  | .hbm, ⟨65, _⟩ => ⟨S16384x1024, .f32⟩
  | .hbm, ⟨66, _⟩ => ⟨S16384x1x1024, .f32⟩
  | .hbm, ⟨67, _⟩ => ⟨S16384x1024, .f32⟩
  | .hbm, ⟨68, _⟩ => ⟨S512x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S1024x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S1024, .f32⟩
  | .hbm, ⟨107, _⟩ => ⟨S1x1024, .f32⟩
  | .hbm, ⟨108, _⟩ => ⟨S16384x1024, .f32⟩
  | .hbm, ⟨109, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Query.lean ====
abbrev S16384x1024 : Shape := ⟨2, ![16384, 1024]⟩
abbrev S1x1024x2048 : Shape := ⟨3, ![1, 1024, 2048]⟩
abbrev S1024x2048 : Shape := ⟨2, ![1024, 2048]⟩
abbrev S16384x2048 : Shape := ⟨2, ![16384, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024x2048, .f32⟩
  | .hbm, ⟨2, _⟩ => ⟨S1024x2048, .f32⟩
  | .hbm, ⟨3, _⟩ => ⟨S1024x2048, .bf16⟩
  | .hbm, ⟨4, _⟩ => ⟨S1024x2048, .f32⟩
  | .hbm, ⟨5, _⟩ => ⟨S1024x2048, .f32⟩
  | .hbm, ⟨6, _⟩ => ⟨S1024x2048, .bf16⟩
  | .hbm, ⟨7, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryReferenceIdeal.lean ====
abbrev S16384x1024 : Shape := ⟨2, ![16384, 1024]⟩
abbrev S1x1024x2048 : Shape := ⟨3, ![1, 1024, 2048]⟩
abbrev S1024x2048 : Shape := ⟨2, ![1024, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2048, .f32⟩
  | .hbm, ⟨2, _⟩ => ⟨S1024x2048, .f32⟩
  | .hbm, ⟨3, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Conv.lean ====
abbrev S16384x5760 : Shape := ⟨2, ![16384, 5760]⟩
abbrev S1x5x1024 : Shape := ⟨3, ![1, 5, 1024]⟩
abbrev S1x1024 : Shape := ⟨2, ![1, 1024]⟩
abbrev S5x1024 : Shape := ⟨2, ![5, 1024]⟩
abbrev S1024 : Shape := ⟨1, ![1024]⟩
abbrev S16384x1024 : Shape := ⟨2, ![16384, 1024]⟩
abbrev S8x512 : Shape := ⟨2, ![8, 512]⟩
abbrev S512x512 : Shape := ⟨2, ![512, 512]⟩
abbrev S5x512 : Shape := ⟨2, ![5, 512]⟩
abbrev S1x512 : Shape := ⟨2, ![1, 512]⟩
abbrev S528x512 : Shape := ⟨2, ![528, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x5760, .f32⟩
  | .hbm, ⟨1, _⟩ => ⟨S1x5x1024, .f32⟩
  | .hbm, ⟨2, _⟩ => ⟨S1x1024, .f32⟩
  | .hbm, ⟨3, _⟩ => ⟨S5x1024, .f32⟩
  | .hbm, ⟨4, _⟩ => ⟨S1024, .f32⟩
  | .hbm, ⟨5, _⟩ => ⟨S1x1024, .f32⟩
  | .hbm, ⟨6, _⟩ => ⟨S16384x1024, .bf16⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S5x512, .f32⟩
  | .local _ .vmem, ⟨7, _⟩ => ⟨S5x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S16384x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c7_i32 : BitVec 32 := 7#32
  let v3 : BitVec 32 := Scalar.addi c7_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S16384x5760 : Shape := ⟨2, ![16384, 5760]⟩
abbrev S1x5x1024 : Shape := ⟨3, ![1, 5, 1024]⟩
abbrev S1x1024 : Shape := ⟨2, ![1, 1024]⟩
abbrev S16384x1024 : Shape := ⟨2, ![16384, 1024]⟩
abbrev S2x8192x1024 : Shape := ⟨3, ![2, 8192, 1024]⟩
abbrev S_ : Shape := ⟨0, ![]⟩
abbrev S2x8196x1024 : Shape := ⟨3, ![2, 8196, 1024]⟩
abbrev S1x1x1024 : Shape := ⟨3, ![1, 1, 1024]⟩
abbrev S1024 : Shape := ⟨1, ![1024]⟩
abbrev S2x8192x512 : Shape := ⟨3, ![2, 8192, 512]⟩

abbrev nBuf : Space → Nat
  | .hbm => 66
  | .vmem => 0
  | .smem => 0
  | _ => 0

abbrev bufTy : (tb : Table) → Fin (tcTables nBuf tb) → BufTy
  | .hbm, ⟨0, _⟩ => ⟨S16384x5760, .f32⟩
  | .hbm, ⟨1, _⟩ => ⟨S1x5x1024, .f32⟩
  | .hbm, ⟨2, _⟩ => ⟨S1x1024, .f32⟩
  | .hbm, ⟨3, _⟩ => ⟨S16384x1024, .f32⟩
  | .hbm, ⟨4, _⟩ => ⟨S2x8192x1024, .f32⟩
  | .hbm, ⟨5, _⟩ => ⟨S_, .i32⟩
  | .hbm, ⟨6, _⟩ => ⟨S_, .f32⟩
  | .hbm, ⟨7, _⟩ => ⟨S2x8196x1024, .f32⟩
  | .hbm, ⟨8, _⟩ => ⟨S2x8192x1024, .f32⟩
  | .hbm, ⟨9, _⟩ => ⟨S1x1x1024, .f32⟩
  | .hbm, ⟨10, _⟩ => ⟨S1024, .f32⟩
  | .hbm, ⟨11, _⟩ => ⟨S1x1x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x512, .f32⟩
  | .hbm, ⟨59, _⟩ => ⟨S2x8192x512, .f32⟩
  | .hbm, ⟨60, _⟩ => ⟨S_, .f32⟩
  | .hbm, ⟨61, _⟩ => ⟨S2x8192x512, .f32⟩
  | .hbm, ⟨62, _⟩ => ⟨S2x8192x512, .f32⟩
  | .hbm, ⟨63, _⟩ => ⟨S2x8192x1024, .f32⟩
  | .hbm, ⟨64, _⟩ => ⟨S16384x1024, .f32⟩
  | .hbm, ⟨65, _⟩ => ⟨S16384x1024, .bf16⟩
  | _, _ => ⟨S16384x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Experts.lean ====
abbrev S16384x1024 : Shape := ⟨2, ![16384, 1024]⟩
abbrev S8x128x16384 : Shape := ⟨3, ![8, 128, 16384]⟩
abbrev S1x16384x1024 : Shape := ⟨3, ![1, 16384, 1024]⟩
abbrev S1x1024 : Shape := ⟨2, ![1, 1024]⟩
abbrev S1024x16384 : Shape := ⟨2, ![1024, 16384]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S8x128x512 : Shape := ⟨3, ![8, 128, 512]⟩
abbrev S512x512 : Shape := ⟨2, ![512, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512 : Shape := ⟨1, ![512]⟩

abbrev nBuf : Space → Nat
  | .hbm => 21
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S8x128x16384, .f32⟩
  | .hbm, ⟨2, _⟩ => ⟨S8x128x16384, .f32⟩
  | .hbm, ⟨3, _⟩ => ⟨S8x128x16384, .f32⟩
  | .hbm, ⟨4, _⟩ => ⟨S8x128x16384, .f32⟩
  | .hbm, ⟨5, _⟩ => ⟨S1x16384x1024, .f32⟩
  | .hbm, ⟨6, _⟩ => ⟨S1x16384x1024, .f32⟩
  | .hbm, ⟨7, _⟩ => ⟨S1x1024, .f32⟩
  | .hbm, ⟨8, _⟩ => ⟨S1x1024, .f32⟩
  | .hbm, ⟨9, _⟩ => ⟨S1024x16384, .f32⟩
  | .hbm, ⟨10, _⟩ => ⟨S1024x16384, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S1024x16384, .f32⟩
  | .hbm, ⟨15, _⟩ => ⟨S1024x16384, .bf16⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024x1, .f32⟩
  | .hbm, ⟨20, _⟩ => ⟨S1024x16384, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x128x512, .f32⟩
  | .local _ .vmem, ⟨15, _⟩ => ⟨S8x128x512, .f32⟩
  | .local _ .vmem, ⟨16, _⟩ => ⟨S1024x1, .f32⟩
  | .local _ .vmem, ⟨17, _⟩ => ⟨S1024x1, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 32], ![false, false]⟩

def k0_off1 (i : grid0.Coords) (c0_i32_7 : BitVec 32) : Fin 3 → Nat :=
  let c0_9 : Index := 0#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v19 : Index := Scalar.indexCast v17
  let c0_10 : Index := 0#32
  ![0, v19.toNat, 0]
def k0_off2 (i : grid0.Coords) (c0_i32_7 : BitVec 32) : Fin 3 → Nat :=
  let c1 : Index := 1#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v36 : Index := Scalar.indexCast v17
  let c0_20 : Index := 0#32
  ![1, v36.toNat, 0]
def k0_off3 (i : grid0.Coords) (c0_i32_7 : BitVec 32) : Fin 3 → Nat :=
  let c2 : Index := 2#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v53 : Index := Scalar.indexCast v17
  let c0_30 : Index := 0#32
  ![2, v53.toNat, 0]
def k0_off4 (i : grid0.Coords) (c0_i32_7 : BitVec 32) : Fin 3 → Nat :=
  let c3 : Index := 3#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v70 : Index := Scalar.indexCast v17
  let c0_40 : Index := 0#32
  ![3, v70.toNat, 0]
def k0_off5 (i : grid0.Coords) (c0_i32_7 : BitVec 32) : Fin 3 → Nat :=
  let c4 : Index := 4#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v87 : Index := Scalar.indexCast v17
  let c0_50 : Index := 0#32
  ![4, v87.toNat, 0]
def k0_off6 (i : grid0.Coords) (c0_i32_7 : BitVec 32) : Fin 3 → Nat :=
  let c5 : Index := 5#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v104 : Index := Scalar.indexCast v17
  let c0_60 : Index := 0#32
  ![5, v104.toNat, 0]
def k0_off7 (i : grid0.Coords) (c0_i32_7 : BitVec 32) : Fin 3 → Nat :=
  let c6 : Index := 6#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v121 : Index := Scalar.indexCast v17
  let c0_70 : Index := 0#32
  ![6, v121.toNat, 0]
def k0_off8 (i : grid0.Coords) (c0_i32_7 : BitVec 32) : Fin 3 → Nat :=
  let c7 : Index := 7#32
  let arg1 : BitVec 32 := BitVec.ofNat 32 (i 1).val
  let c4_i32 : BitVec 32 := 4#32
  let v16 : BitVec 32 := Scalar.muli arg1 c4_i32
  let v17 : BitVec 32 := Scalar.addi v16 c0_i32_7
  let v138 : Index := Scalar.indexCast v17
  let c0_80 : Index := 0#32
  ![7, v138.toNat, 0]
def k0_cond2 (i : grid0.Coords) : BitVec 1 :=
  let arg1 : BitVec 32 := BitVec.ofNat 32 (i 1).val
  let c31_i32 : BitVec 32 := 31#32
  let v583 : BitVec 1 := Scalar.cmpi .eq arg1 c31_i32
  let v584 : BitVec 32 := Scalar.extui v583
  let c0_i32_367 : BitVec 32 := 0#32
  let v585 : BitVec 1 := Scalar.cmpi .ne v584 c0_i32_367
  v585

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ExpertsReferenceIdeal.lean ====
abbrev S16384x1024 : Shape := ⟨2, ![16384, 1024]⟩
abbrev S8x128x16384 : Shape := ⟨3, ![8, 128, 16384]⟩
abbrev S1x16384x1024 : Shape := ⟨3, ![1, 16384, 1024]⟩
abbrev S1x1024 : Shape := ⟨2, ![1, 1024]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384 : Shape := ⟨1, ![16384]⟩
abbrev S16384x1 : Shape := ⟨2, ![16384, 1]⟩
abbrev S1024 : Shape := ⟨1, ![1024]⟩
abbrev S1024x16384 : Shape := ⟨2, ![1024, 16384]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x128x16384, .f32⟩
  | .hbm, ⟨2, _⟩ => ⟨S8x128x16384, .f32⟩
  | .hbm, ⟨3, _⟩ => ⟨S8x128x16384, .f32⟩
  | .hbm, ⟨4, _⟩ => ⟨S8x128x16384, .f32⟩
  | .hbm, ⟨5, _⟩ => ⟨S1x16384x1024, .f32⟩
  | .hbm, ⟨6, _⟩ => ⟨S1x16384x1024, .f32⟩
  | .hbm, ⟨7, _⟩ => ⟨S1x1024, .f32⟩
  | .hbm, ⟨8, _⟩ => ⟨S1x1024, .f32⟩
  | .hbm, ⟨9, _⟩ => ⟨S8x1x128x16384, .f32⟩
  | .hbm, ⟨10, _⟩ => ⟨S8x128x1x16384, .f32⟩
  | .hbm, ⟨11, _⟩ => ⟨S8x128x128x16384, .f32⟩
  | .hbm, ⟨12, _⟩ => ⟨S8x128x128x16384, .f32⟩
  | .hbm, ⟨13, _⟩ => ⟨S8x128x128x16384, .i1⟩
  | .hbm, ⟨14, _⟩ => ⟨S8x128x1x16384, .f32⟩
  | .hbm, ⟨15, _⟩ => ⟨S8x1x128x16384, .f32⟩
  | .hbm, ⟨16, _⟩ => ⟨S8x128x128x16384, .f32⟩
  | .hbm, ⟨17, _⟩ => ⟨S8x128x128x16384, .f32⟩
  | .hbm, ⟨18, _⟩ => ⟨S8x128x128x16384, .f32⟩
  | .hbm, ⟨19, _⟩ => ⟨S_, .f32⟩
  | .hbm, ⟨20, _⟩ => ⟨S_, .f32⟩
  | .hbm, ⟨21, _⟩ => ⟨S8x128x128x16384, .f32⟩
  | .hbm, ⟨22, _⟩ => ⟨S8x128x128x16384, .f32⟩
  | .hbm, ⟨23, _⟩ => ⟨S_, .f32⟩
  | .hbm, ⟨24, _⟩ => ⟨S128x128x16384, .f32⟩
  | .hbm, ⟨25, _⟩ => ⟨S16384x16384, .f32⟩
  | .hbm, ⟨26, _⟩ => ⟨S16384x16384, .f32⟩
  | .hbm, ⟨27, _⟩ => ⟨S16384x1024, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S16384x16384, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S1024x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Scores.lean ====
abbrev S16384x2048 : Shape := ⟨2, ![16384, 2048]⟩
abbrev S1x2x128x128 : Shape := ⟨4, ![1, 2, 128, 128]⟩
abbrev S2x128x128 : Shape := ⟨3, ![2, 128, 128]⟩
abbrev S8x128x16384 : Shape := ⟨3, ![8, 128, 16384]⟩
abbrev S256x256 : Shape := ⟨2, ![256, 256]⟩
abbrev S1x128x256 : Shape := ⟨3, ![1, 128, 256]⟩
abbrev S16x256 : Shape := ⟨2, ![16, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2x128x128, .f32⟩
  | .hbm, ⟨2, _⟩ => ⟨S2x128x128, .f32⟩
  | .hbm, ⟨3, _⟩ => ⟨S2x128x128, .bf16⟩
  | .hbm, ⟨4, _⟩ => ⟨S2x128x128, .f32⟩
  | .hbm, ⟨5, _⟩ => ⟨S2x128x128, .f32⟩
  | .hbm, ⟨6, _⟩ => ⟨S2x128x128, .bf16⟩
  | .hbm, ⟨7, _⟩ => ⟨S8x128x16384, .f32⟩
  | .hbm, ⟨8, _⟩ => ⟨S8x128x16384, .f32⟩
  | .hbm, ⟨9, _⟩ => ⟨S8x128x16384, .f32⟩
  | .hbm, ⟨10, _⟩ => ⟨S8x128x16384, .f32⟩
  | .local _ .vmem, ⟨0, _⟩ => ⟨S256x256, .f32⟩
  | .local _ .vmem, ⟨1, _⟩ => ⟨S256x256, .f32⟩
  | .local _ .vmem, ⟨2, _⟩ => ⟨S2x128x128, .bf16⟩
  | .local _ .vmem, ⟨3, _⟩ => ⟨S2x128x128, .bf16⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S16x256, .f32⟩
  | .local _ .vmem, ⟨13, _⟩ => ⟨S16x256, .f32⟩
  | .local _ .vmem, ⟨14, _⟩ => ⟨S256x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ScoresReferenceIdeal.lean ====
abbrev S16384x2048 : Shape := ⟨2, ![16384, 2048]⟩
abbrev S1x2x128x128 : Shape := ⟨4, ![1, 2, 128, 128]⟩
abbrev S16384x8x2x128 : Shape := ⟨4, ![16384, 8, 2, 128]⟩
abbrev S2x128x128 : Shape := ⟨3, ![2, 128, 128]⟩
abbrev S2x128x16384x8 : Shape := ⟨4, ![2, 128, 16384, 8]⟩
abbrev S2x8x128x16384 : Shape := ⟨4, ![2, 8, 128, 16384]⟩
abbrev S1x8x128x16384 : Shape := ⟨4, ![1, 8, 128, 16384]⟩
abbrev S8x128x16384 : Shape := ⟨3, ![8, 128, 16384]⟩
abbrev S_ : Shape := ⟨0, ![]⟩
abbrev S8x16384 : Shape := ⟨2, ![8, 16384]⟩
abbrev S8x1x16384 : Shape := ⟨3, ![8, 1, 16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2x128x128, .f32⟩
  | .hbm, ⟨2, _⟩ => ⟨S16384x8x2x128, .f32⟩
  | .hbm, ⟨3, _⟩ => ⟨S2x128x128, .f32⟩
  | .hbm, ⟨4, _⟩ => ⟨S2x128x16384x8, .f32⟩
  | .hbm, ⟨5, _⟩ => ⟨S16384x8x2x128, .f32⟩
  | .hbm, ⟨6, _⟩ => ⟨S2x8x128x16384, .f32⟩
  | .hbm, ⟨7, _⟩ => ⟨S1x8x128x16384, .f32⟩
  | .hbm, ⟨8, _⟩ => ⟨S8x128x16384, .f32⟩
  | .hbm, ⟨9, _⟩ => ⟨S1x8x128x16384, .f32⟩
  | .hbm, ⟨10, _⟩ => ⟨S8x128x16384, .f32⟩
  | .hbm, ⟨11, _⟩ => ⟨S1x8x128x16384, .f32⟩
  | .hbm, ⟨12, _⟩ => ⟨S8x128x16384, .f32⟩
  | .hbm, ⟨13, _⟩ => ⟨S_, .f32⟩
  | .hbm, ⟨14, _⟩ => ⟨S8x16384, .f32⟩
  | .hbm, ⟨15, _⟩ => ⟨S8x1x16384, .f32⟩
  | .hbm, ⟨16, _⟩ => ⟨S8x128x16384, .f32⟩
  | .hbm, ⟨17, _⟩ => ⟨S8x128x16384, .f32⟩
  | .hbm, ⟨18, _⟩ => ⟨S8x128x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.Rope.Frame
public import proofs.«01_k».proof.Proof.Gen.RopeIdeal.Frame
public import proofs.«01_k».proof.Proof.Gen.RopeReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Gen.Query.Frame
public import proofs.«01_k».proof.Proof.Gen.QueryIdeal.Frame
public import proofs.«01_k».proof.Proof.Gen.QueryReferenceIdeal.Run
public import proofs.«01_k».proof.Proof.Gen.Conv.Frame
public import proofs.«01_k».proof.Proof.Gen.ConvIdeal.Frame
public import proofs.«01_k».proof.Proof.Gen.ConvReferenceIdeal.Run
public import proofs.«01_k».proof.Proof.Gen.Experts.Frame
public import proofs.«01_k».proof.Proof.Gen.ExpertsIdeal.Frame
public import proofs.«01_k».proof.Proof.Gen.ExpertsReferenceIdeal.Run
public import proofs.«01_k».proof.Proof.Gen.Scores.Frame
public import proofs.«01_k».proof.Proof.Gen.ScoresIdeal.Frame
public import proofs.«01_k».proof.Proof.Gen.ScoresReferenceIdeal.Run
public import proofs.«01_k».proof.Proof.Gen.Pre_finite
public import proofs.«01_k».proof.Proof.Gen.Pre_finite_query
public import proofs.«01_k».proof.Proof.Gen.Pre_finite_scores
public import Idealize.ShloMosaic.Lib.Claim

/-! # Each program ends, and leaves its arguments and counters as they were -/

@[expose] public section

noncomputable section

namespace Cert.Frames

open Idealize.ShloMosaic Idealize.SL.Sem

/-- The compiled program of the attention ends with its arguments unchanged and its counters at zero. -/
theorem Kernel : Cert.quiescent_Kernel := fun m g _ => Cert.Kernel.Gen.frame m g

/-- The idealized program of the attention ends with its arguments unchanged and its counters at zero. -/
theorem KernelIdeal : Cert.quiescent_KernelIdeal := fun m g _ => Cert.KernelIdeal.Gen.frame m g

/-- The idealized program of the attention ends with its arguments unchanged and its counters at zero (under the precondition). -/
theorem KernelIdeal_pre_finite : Cert.quiescent_KernelIdeal_pre_finite := fun m g _ => Cert.KernelIdeal.Gen.frame m g

/-- The reference of the attention ends with its arguments unchanged; it declares no semaphore. -/
theorem ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference of the attention ends with its arguments unchanged (under the precondition); it declares no semaphore. -/
theorem ReferenceIdeal_pre_finite : Cert.quiescent_ReferenceIdeal_pre_finite := fun m g _ =>
  (θ_run Cert.ReferenceIdeal.defs _ _).mono (fun r h => ⟨fun c => (h c).2, sem_eq_zero_of_no_sems (by decide) r.2⟩)
    (Cert.ReferenceIdeal.Value.run (F := Ideal) m g)

/-- The compiled program of the input projection ends with its arguments unchanged and its counters at zero. -/
theorem Project : Cert.quiescent_Project := fun m g _ => Cert.Project.Gen.frame m g

/-- The idealized program of the input projection ends with its arguments unchanged and its counters at zero. -/
theorem ProjectIdeal : Cert.quiescent_ProjectIdeal := fun m g _ => Cert.ProjectIdeal.Gen.frame m g

/-- The reference of the input projection ends with its arguments unchanged; it declares no semaphore. -/
theorem ProjectReferenceIdeal : Cert.quiescent_ProjectReferenceIdeal := fun m g _ =>
  (θ_run Cert.ProjectReferenceIdeal.defs _ _).mono (fun r h => ⟨fun c => (h c).2, sem_eq_zero_of_no_sems (by decide) r.2⟩)
    (Cert.ProjectReferenceIdeal.Value.run (F := Ideal) m g)

/-- The compiled program of the rotary positions ends with its arguments unchanged and its counters at zero. -/
theorem Rope : Cert.quiescent_Rope := fun m g _ => Cert.Rope.Gen.frame m g

/-- The idealized program of the rotary positions ends with its arguments unchanged and its counters at zero. -/
theorem RopeIdeal : Cert.quiescent_RopeIdeal := fun m g _ => Cert.RopeIdeal.Gen.frame m g

/-- The reference of the rotary positions ends with its arguments unchanged; it declares no semaphore. -/
theorem RopeReferenceIdeal : Cert.quiescent_RopeReferenceIdeal := fun m g _ =>
  (θ_run Cert.RopeReferenceIdeal.defs _ _).mono (fun r h => ⟨fun c => (h c).2, sem_eq_zero_of_no_sems (by decide) r.2⟩)
    (Cert.RopeReferenceIdeal.Value.run (F := Ideal) m g)

/-- The compiled program of the merge ends with its arguments unchanged and its counters at zero. -/
theorem Merge : Cert.quiescent_Merge := fun m g _ => Cert.Merge.Gen.frame m g

/-- The idealized program of the merge ends with its arguments unchanged and its counters at zero. -/
theorem MergeIdeal : Cert.quiescent_MergeIdeal := fun m g _ => Cert.MergeIdeal.Gen.frame m g

/-- The reference of the merge ends with its arguments unchanged; it declares no semaphore. -/
theorem MergeReferenceIdeal : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

/-- The compiled program of the query product ends with its arguments unchanged and its counters at zero. -/
theorem Query : Cert.quiescent_Query := fun m g _ => Cert.Query.Gen.frame m g

/-- The idealized program of the query product ends with its arguments unchanged and its counters at zero. -/
theorem QueryIdeal : Cert.quiescent_QueryIdeal := fun m g _ => Cert.QueryIdeal.Gen.frame m g

/-- The idealized program of the query product ends with its arguments unchanged and its counters at zero (under the precondition). -/
theorem QueryIdeal_pre_finite_query : Cert.quiescent_QueryIdeal_pre_finite_query := fun m g _ => Cert.QueryIdeal.Gen.frame m g

/-- The reference of the query product ends with its arguments unchanged; it declares no semaphore. -/
theorem QueryReferenceIdeal : Cert.quiescent_QueryReferenceIdeal := fun m g _ =>
  (θ_run Cert.QueryReferenceIdeal.defs _ _).mono (fun r h => ⟨fun c => (h c).2, sem_eq_zero_of_no_sems (by decide) r.2⟩)
    (Cert.QueryReferenceIdeal.Value.run (F := Ideal) m g)

/-- The reference of the query product ends with its arguments unchanged (under the precondition); it declares no semaphore. -/
theorem QueryReferenceIdeal_pre_finite_query : Cert.quiescent_QueryReferenceIdeal_pre_finite_query := fun m g _ =>
  (θ_run Cert.QueryReferenceIdeal.defs _ _).mono (fun r h => ⟨fun c => (h c).2, sem_eq_zero_of_no_sems (by decide) r.2⟩)
    (Cert.QueryReferenceIdeal.Value.run (F := Ideal) m g)

/-- The compiled program of the convolution ends with its arguments unchanged and its counters at zero. -/
theorem Conv : Cert.quiescent_Conv := fun m g _ => Cert.Conv.Gen.frame m g

/-- The idealized program of the convolution ends with its arguments unchanged and its counters at zero. -/
theorem ConvIdeal : Cert.quiescent_ConvIdeal := fun m g _ => Cert.ConvIdeal.Gen.frame m g

/-- The reference of the convolution ends with its arguments unchanged; it declares no semaphore. -/
theorem ConvReferenceIdeal : Cert.quiescent_ConvReferenceIdeal := fun m g _ =>
  (θ_run Cert.ConvReferenceIdeal.defs _ _).mono (fun r h => ⟨fun c => (h c).2, sem_eq_zero_of_no_sems (by decide) r.2⟩)
    (Cert.ConvReferenceIdeal.Value.run (F := Ideal) m g)

/-- The compiled program of the experts ends with its arguments unchanged and its counters at zero. -/
theorem Experts : Cert.quiescent_Experts := fun m g _ => Cert.Experts.Gen.frame m g

/-- The idealized program of the experts ends with its arguments unchanged and its counters at zero. -/
theorem ExpertsIdeal : Cert.quiescent_ExpertsIdeal := fun m g _ => Cert.ExpertsIdeal.Gen.frame m g

/-- The reference of the experts ends with its arguments unchanged; it declares no semaphore. -/
theorem ExpertsReferenceIdeal : Cert.quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

/-- The compiled program of the scores ends with its arguments unchanged and its counters at zero. -/
theorem Scores : Cert.quiescent_Scores := fun m g _ => Cert.Scores.Gen.frame m g

/-- The idealized program of the scores ends with its arguments unchanged and its counters at zero. -/
theorem ScoresIdeal : Cert.quiescent_ScoresIdeal := fun m g _ => Cert.ScoresIdeal.Gen.frame m g

/-- The idealized program of the scores ends with its arguments unchanged and its counters at zero (under the precondition). -/
theorem ScoresIdeal_pre_finite_scores : Cert.quiescent_ScoresIdeal_pre_finite_scores := fun m g _ => Cert.ScoresIdeal.Gen.frame m g

/-- The reference of the scores ends with its arguments unchanged; it declares no semaphore. -/
theorem ScoresReferenceIdeal : Cert.quiescent_ScoresReferenceIdeal := fun m g _ =>
  (θ_run Cert.ScoresReferenceIdeal.defs _ _).mono (fun r h => ⟨fun c => (h c).2.2, sem_eq_zero_of_no_sems (by decide) r.2⟩)
    (Cert.ScoresReferenceIdeal.Value.run (F := Ideal) m g)

/-- The reference of the scores ends with its arguments unchanged (under the precondition); it declares no semaphore. -/
theorem ScoresReferenceIdeal_pre_finite_scores : Cert.quiescent_ScoresReferenceIdeal_pre_finite_scores := fun m g _ =>
  (θ_run Cert.ScoresReferenceIdeal.defs _ _).mono (fun r h => ⟨fun c => (h c).2.2, sem_eq_zero_of_no_sems (by decide) r.2⟩)
    (Cert.ScoresReferenceIdeal.Value.run (F := Ideal) m g)

end Cert.Frames

end
-- ==== Proof.Attn.Tile.lean ====
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Attn.Ker

open Cert.KernelIdeal Cert.KernelIdeal.Gen

/-- The word the kernel starts its running maxima from is −∞. -/
theorem negInf : Ideal.ofBits .f32 0xFF800000#32 = ⊥ := by simp [Ideal.ofBits, Ideal.ieee]

/-- Scores of the first map in one tile: query rows against the first 64 columns of the keys. -/
theorem pay3_at (kb : Vec Ideal S512x128 .bf16) (qb : Vec Ideal S512x64 .bf16) (r j : Fin 512) :
    k0_pay3 kb qb (ix2 r j) = ∑ c : Fin 64, qb (ix2 r c) * kb (ix2 j (⟨c.val, by omega⟩ : Fin 128)) := by
  pointwise [k0_pay3]

/-- Scores of the second map in one tile. -/
theorem pay12_at (kb : Vec Ideal S512x128 .bf16) (qb : Vec Ideal S512x64 .bf16) (r j : Fin 512) :
    k0_pay12 qb (k0_pay8 kb) (ix2 r j)
      = ∑ c : Fin 64, qb (ix2 r c) * kb (ix2 j (⟨64 + c.val, by omega⟩ : Fin 128)) := by
  pointwise [k0_pay12, k0_pay8]

/-- The values of one tile with the column of ones beside them. -/
def vext (vb : Vec Ideal S512x128 .bf16) (j : Fin 512) (d : Fin 256) : EReal :=
  if h : d.val < 128 then vb (ix2 j ⟨d.val, h⟩) else if d.val = 128 then 1 else 0

/-- The columns put beside the values: a column of ones, then zeros. -/
theorem pay11_at (r : Fin 512) (d : Fin 128) :
    k0_pay11 (F := Ideal) (ix2 r d) = if d.val = 0 then (1 : EReal) else 0 := by
  pointwise [k0_pay11]
  revert d
  have h : ∀ d : Fin 128, IntOp.cmpi CmpIPredicate.eq (BitVec.ofNat 32 d.val) 0#32
      = if d.val = 0 then 1#1 else 0#1 := by decide
  intro d
  rw [h d]
  by_cases hd : d.val = 0 <;> simp [hd, Scalar.select]

/-- The new maximum of a row, first map. -/
theorem pay5_at (kb : Vec Ideal S512x128 .bf16) (qb : Vec Ideal S512x64 .bf16)
    (mo : Vec Ideal S1x512x1 .f32) (r : Fin 512) :
    k0_pay5 kb qb mo (ix2 r 0) = max (mo (ix3 0 r 0))
      (Finset.univ.fold max (⊥ : EReal) (fun j : Fin 512 => k0_pay3 kb qb (ix2 r j))) := by
  pointwise [k0_pay5, k0_pay4]
  rw [negInf]

/-- The second map's new maximum. -/
theorem pay14_at (kb : Vec Ideal S512x64 .bf16) (qb : Vec Ideal S512x64 .bf16)
    (mo : Vec Ideal S1x512x1 .f32) (r : Fin 512) :
    k0_pay14 qb kb mo (ix2 r 0) = max (mo (ix3 0 r 0))
      (Finset.univ.fold max (⊥ : EReal) (fun j : Fin 512 => k0_pay12 qb kb (ix2 r j))) := by
  pointwise [k0_pay14, k0_pay13]
  rw [negInf]

/-- The first map's new maximum, as it is stored. -/
theorem pay7_at (kb : Vec Ideal S512x128 .bf16) (qb : Vec Ideal S512x64 .bf16)
    (mo : Vec Ideal S1x512x1 .f32) (r : Fin 512) :
    k0_pay7 kb qb mo (ix3 0 r 0) = k0_pay5 kb qb mo (ix2 r 0) := by
  pointwise [k0_pay7]

/-- The second map's new maximum, as it is stored. -/
theorem pay16_at (kb : Vec Ideal S512x64 .bf16) (qb : Vec Ideal S512x64 .bf16)
    (mo : Vec Ideal S1x512x1 .f32) (r : Fin 512) :
    k0_pay16 qb kb mo (ix3 0 r 0) = k0_pay14 qb kb mo (ix2 r 0) := by
  pointwise [k0_pay16]

/-- The values with a column of ones beside them. -/
theorem vext_of (vb : Vec Ideal S512x128 .bf16) (j : Fin 512) (d : Fin 256) :
    (if h : d.val < 128 then vb (ix2 j (⟨d.val, h⟩ : Fin 128))
      else k0_pay11 (F := Ideal) (ix2 j (⟨d.val - 128, by omega⟩ : Fin 128))) = vext vb j d := by
  unfold vext
  by_cases h : d.val < 128
  · simp [h]
  · simp only [h, dif_neg, not_false_eq_true, dite_false]
    rw [pay11_at]
    have : d.val - 128 = 0 ↔ d.val = 128 := by omega
    simp [this]

/-- The new accumulator of a row, first map. -/
theorem pay6_at (kb vb : Vec Ideal S512x128 .bf16) (qb : Vec Ideal S512x64 .bf16)
    (mo : Vec Ideal S1x512x1 .f32) (ao : Vec Ideal S1x512x256 .f32) (r : Fin 512) (d : Fin 256) :
    k0_pay6 k0_pay11 kb vb qb mo ao (ix3 0 r d)
      = Ideal.exp (mo (ix3 0 r 0) - k0_pay5 kb qb mo (ix2 r 0)) * ao (ix3 0 r d)
        + ∑ j, Ideal.exp (k0_pay3 kb qb (ix2 r j) - k0_pay5 kb qb mo (ix2 r 0)) * vext vb j d := by
  simp only [← vext_of]
  pointwise [k0_pay6, k0_pay4, k0_pay2]

/-- The new accumulator of a row, second map. -/
theorem pay15_at (kb : Vec Ideal S512x64 .bf16) (vb : Vec Ideal S512x128 .bf16)
    (qb : Vec Ideal S512x64 .bf16)
    (mo : Vec Ideal S1x512x1 .f32) (ao : Vec Ideal S1x512x256 .f32) (r : Fin 512) (d : Fin 256) :
    k0_pay15 (k0_pay2 k0_pay11 vb) qb kb mo ao (ix3 0 r d)
      = Ideal.exp (mo (ix3 0 r 0) - k0_pay14 qb kb mo (ix2 r 0)) * ao (ix3 0 r d)
        + ∑ j, Ideal.exp (k0_pay12 qb kb (ix2 r j) - k0_pay14 qb kb mo (ix2 r 0)) * vext vb j d := by
  simp only [← vext_of]
  pointwise [k0_pay15, k0_pay13, k0_pay2]

/-- The mixing weight of the two maps. -/
theorem pay17_at (L : Vec Ideal S4x64 .f32) :
    k0_pay17 L (ix2 0 0) = (Ideal.exp (∑ x : Fin 64, L (ix2 0 x) * L (ix2 1 x))
      - Ideal.exp (∑ x : Fin 64, L (ix2 2 x) * L (ix2 3 x))) + Ideal.ofBits .f32 0x3E4CCCCD#32 := by
  pointwise [k0_pay17]

/-- The mixed quotient of one row, before the norm. -/
def mix (lam : EReal) (a0 a1 : Vec Ideal S1x512x256 .f32) (r : Fin 512) (d : Fin 128) : EReal :=
  Ideal.div (a0 (ix3 0 r (⟨d.val, by omega⟩ : Fin 256))) (a0 (ix3 0 r 128))
    - lam * Ideal.div (a1 (ix3 0 r (⟨d.val, by omega⟩ : Fin 256))) (a1 (ix3 0 r 128))

/-- The finished row. -/
theorem pay1_at (lam : FVec Ideal S1x1 .f32) (a0 a1 : Vec Ideal S1x512x256 .f32)
    (g : Vec Ideal S1x128 .f32) (r : Fin 512) (d : Fin 128) :
    k0_pay1 lam a0 a1 g (ix2 r d) = mix (lam (ix2 0 0)) a0 a1 r d
      * Ideal.rsqrt (Ideal.div (∑ x : Fin 128, mix (lam (ix2 0 0)) a0 a1 r x * mix (lam (ix2 0 0)) a0 a1 r x)
          (Ideal.ofBits .f32 0x43000000#32) + Ideal.ofBits .f32 0x3727C5AC#32)
      * g (ix2 0 d) * Ideal.ofBits .f32 0x3F4CCCCD#32 := by
  unfold mix
  pointwise [k0_pay1]

/-- The first maximum stored is −∞. -/
theorem pay9_at (p : Fin 2) (r : Fin 512) : k0_pay9 (F := Ideal) (ix3 p r 0) = (⊥ : EReal) := by
  rw [← negInf]
  pointwise [k0_pay9]

/-- The first accumulator stored is zero. -/
theorem pay10_at (p : Fin 2) (r : Fin 512) (d : Fin 256) : k0_pay10 (F := Ideal) (ix3 p r d) = (0 : EReal) := by
  pointwise [k0_pay10]

end Cert.Attn.Ker

end
-- ==== Proof.Attn.Math.lean ====
/-
  The real arithmetic of the attention: a softmax-weighted mean, that shifting the scores leaves it alone, and the
  running form of it (a shift and a weighted sum carried from tile to tile).
-/
module

public import Idealize.ShloMosaic.Lib.Pointwise

@[expose] public section

noncomputable section

open Idealize.ShloMosaic

namespace Cert.Attn

/-- The mean of `w` weighted by the softmax of `s`. -/
def wmean {ι : Type} [Fintype ι] (s w : ι → ℝ) : ℝ := (∑ j, Real.exp (s j) * w j) / ∑ j, Real.exp (s j)

/-- A finite sum of reals is the same sum of extended reals. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A shift in the exponent comes out of the sum as a factor. -/
theorem sum_exp_shift {ι : Type} [Fintype ι] (s w : ι → ℝ) (M : ℝ) :
    ∑ j, Real.exp (s j - M) * w j = Real.exp (-M) * ∑ j, Real.exp (s j) * w j := by
  rw [Finset.mul_sum]
  refine Finset.sum_congr rfl fun j _ => ?_
  rw [sub_eq_add_neg, Real.exp_add]; ring

/-- The weighted mean from shifted scores. -/
theorem wmean_shift {ι : Type} [Fintype ι] (s w : ι → ℝ) (M : ℝ) :
    (∑ j, Real.exp (s j - M) * w j) / (∑ j, Real.exp (s j - M)) = wmean s w := by
  have h1 := sum_exp_shift s w M
  have h2 := sum_exp_shift s (fun _ => 1) M
  simp only [mul_one] at h2
  rw [h1, h2, mul_div_mul_left _ _ (Real.exp_pos _).ne', wmean]

/-- A nonempty sum of exponentials is not zero. -/
theorem sum_exp_ne {ι : Type} [Fintype ι] [Nonempty ι] (s : ι → ℝ) : (∑ j, Real.exp (s j)) ≠ 0 :=
  (Finset.sum_pos (fun _ _ => Real.exp_pos _) Finset.univ_nonempty).ne'

/-- A quotient of two real numbers. -/
theorem div_real (a : ℝ) {b : ℝ} (hb : b ≠ 0) : Ideal.div (a : EReal) (b : EReal) = ((a / b : ℝ) : EReal) := by
  rw [Ideal.div_coe hb, ← EReal.coe_mul, mul_one_div]

/-- The largest of finitely many real numbers, from −∞, is a real number. -/
theorem fold_max_real {ι : Type} [Fintype ι] [Nonempty ι] (f : ι → ℝ) :
    ∃ M : ℝ, Finset.univ.fold max (⊥ : EReal) (fun j => (f j : EReal)) = (M : EReal) := by
  classical
  have key : ∀ t : Finset ι, t.Nonempty → ∃ M : ℝ, t.fold max (⊥ : EReal) (fun j => (f j : EReal)) = (M : EReal) := by
    intro t ht
    induction ht using Finset.Nonempty.cons_induction with
    | singleton a => exact ⟨f a, by rw [Finset.fold_singleton]; exact max_eq_left bot_le⟩
    | cons a t ha _ ih =>
      obtain ⟨M, hM⟩ := ih
      refine ⟨max (f a) M, ?_⟩
      rw [Finset.fold_cons, hM]
      exact (EReal.coe_strictMono.monotone.map_max).symm
  exact key _ Finset.univ_nonempty

/-- The reference's entry: the difference of two softmax maps against the values. -/
theorem ref_entry {ι : Type} [Fintype ι] [Nonempty ι] (s0 s1 w : ι → ℝ) (M0 M1 lam : ℝ) :
    (∑ j, (Ideal.div (Ideal.exp ((s0 j : EReal) - (M0 : EReal))) (∑ x, Ideal.exp ((s0 x : EReal) - (M0 : EReal)))
        - (lam : EReal) * Ideal.div (Ideal.exp ((s1 j : EReal) - (M1 : EReal))) (∑ x, Ideal.exp ((s1 x : EReal) - (M1 : EReal)))) * (w j : EReal))
      = ((wmean s0 w - lam * wmean s1 w : ℝ) : EReal) := by
  have e0 : ∀ (s : ι → ℝ) (M : ℝ) (x : ι), Ideal.exp ((s x : EReal) - (M : EReal)) = ((Real.exp (s x - M) : ℝ) : EReal) := by
    intro s M x; rw [← EReal.coe_sub, Ideal.exp_coe]
  simp only [e0]
  rw [← coe_sum, ← coe_sum]
  have n0 := sum_exp_ne (fun x => s0 x - M0)
  have n1 := sum_exp_ne (fun x => s1 x - M1)
  simp only [div_real _ n0, div_real _ n1, ← EReal.coe_mul, ← EReal.coe_sub]
  rw [← coe_sum]
  congr 1
  rw [← wmean_shift s0 w M0, ← wmean_shift s1 w M1, Finset.sum_div, Finset.sum_div, Finset.mul_sum, ← Finset.sum_sub_distrib]
  refine Finset.sum_congr rfl fun j _ => ?_
  ring

/-- What the running sum holds after the first `k` tiles: nothing yet, or a real shift `M` and, for each column, the
    sum of the shifted exponentials against that column. -/
def Held {D : Type} (T : ℕ) (s : ℕ → Fin T → ℝ) (w : ℕ → Fin T → D → ℝ) (k : ℕ) (m : EReal) (acc : D → EReal) : Prop :=
  (k = 0 ∧ m = ⊥ ∧ ∀ d, acc d = 0) ∨
    ∃ M : ℝ, m = (M : EReal) ∧ ∀ d, acc d = ((∑ i ∈ Finset.range k, ∑ j, Real.exp (s i j - M) * w i j d : ℝ) : EReal)

/-- Before the first tile the running state holds nothing. -/
theorem held_zero {D : Type} (T : ℕ) (s : ℕ → Fin T → ℝ) (w : ℕ → Fin T → D → ℝ) (acc : D → EReal) (h : ∀ d, acc d = 0) :
    Held T s w 0 ⊥ acc := Or.inl ⟨rfl, rfl, h⟩

/-- One tile: the shift becomes the larger of the old one and the tile's largest score, the old sums are rescaled and
    the tile's are added. -/
theorem held_succ {D : Type} {T : ℕ} (hT : 0 < T) (s : ℕ → Fin T → ℝ) (w : ℕ → Fin T → D → ℝ) (k : ℕ) (m m' : EReal) (acc acc' : D → EReal)
    (h : Held T s w k m acc)
    (hm : m' = max m (Finset.univ.fold max (⊥ : EReal) (fun j => (s k j : EReal))))
    (ha : ∀ d, acc' d = Ideal.exp (m - m') * acc d + ∑ j, Ideal.exp ((s k j : EReal) - m') * (w k j d : EReal)) :
    Held T s w (k + 1) m' acc' := by
  haveI : Nonempty (Fin T) := ⟨⟨0, hT⟩⟩
  obtain ⟨N, hN⟩ := fold_max_real (s k)
  have tile : ∀ (M : ℝ) (d : D), (∑ j, Ideal.exp ((s k j : EReal) - (M : EReal)) * (w k j d : EReal))
      = ((∑ j, Real.exp (s k j - M) * w k j d : ℝ) : EReal) := by
    intro M d
    rw [coe_sum]
    refine Finset.sum_congr rfl fun j _ => ?_
    rw [← EReal.coe_sub, Ideal.exp_coe, ← EReal.coe_mul]
  refine Or.inr ?_
  rcases h with ⟨rfl, rfl, h0⟩ | ⟨M, rfl, hM⟩
  · refine ⟨N, ?_, fun d => ?_⟩
    · rw [hm, hN]; exact max_eq_right bot_le
    · have hm' : m' = (N : EReal) := by rw [hm, hN]; exact max_eq_right bot_le
      rw [ha d, h0 d, mul_zero, zero_add, hm', tile, Finset.sum_range_one]
  · have hm' : m' = ((max M N : ℝ) : EReal) := by rw [hm, hN]; exact (EReal.coe_strictMono.monotone.map_max).symm
    refine ⟨max M N, hm', fun d => ?_⟩
    rw [ha d, hM d, hm', tile, ← EReal.coe_sub, Ideal.exp_coe, ← EReal.coe_mul, ← EReal.coe_add, Finset.sum_range_succ]
    congr 2
    rw [Finset.mul_sum]
    refine Finset.sum_congr rfl fun i _ => ?_
    rw [Finset.mul_sum]
    refine Finset.sum_congr rfl fun j _ => ?_
    rw [← mul_assoc, ← Real.exp_add]
    congr 2
    ring

/-- After the last tile, the sums divided by the sum of the column of ones are the weighted mean over all the tiles. -/
theorem held_div {D : Type} {J T N : ℕ} (hN : N = J * T) (hJ : 0 < N) (s : ℕ → Fin T → ℝ) (w : ℕ → Fin T → D → ℝ) (m : EReal) (acc : D → EReal)
    (h : Held T s w J m acc) (S : Fin N → ℝ) (W : Fin N → ℝ) (d e : D)
    (hS : ∀ (j : Fin J) (t : Fin T) (h : j.val * T + t.val < N), s j.val t = S ⟨j.val * T + t.val, h⟩)
    (hW : ∀ (j : Fin J) (t : Fin T) (h : j.val * T + t.val < N), w j.val t d = W ⟨j.val * T + t.val, h⟩)
    (hE : ∀ (j : Fin J) (t : Fin T), w j.val t e = 1) :
    Ideal.div (acc d) (acc e) = ((wmean S W : ℝ) : EReal) := by
  haveI : Nonempty (Fin N) := ⟨⟨0, hJ⟩⟩
  rcases h with ⟨rfl, _⟩ | ⟨M, _, hM⟩
  · simp at hN; omega
  subst hN
  have e1 : (∑ i ∈ Finset.range J, ∑ j, Real.exp (s i j - M) * w i j d) = ∑ x, Real.exp (S x - M) * W x := by
    rw [Fin.sum_univ_tiles J T rfl, Finset.sum_range]
    refine Finset.sum_congr rfl fun j _ => Finset.sum_congr rfl fun t _ => ?_
    rw [hS j t, hW j t]
  have e2 : (∑ i ∈ Finset.range J, ∑ j, Real.exp (s i j - M) * w i j e) = ∑ x, Real.exp (S x - M) := by
    rw [Fin.sum_univ_tiles J T rfl, Finset.sum_range]
    refine Finset.sum_congr rfl fun j _ => Finset.sum_congr rfl fun t _ => ?_
    rw [hS j t, hE j t, mul_one]
  rw [hM d, hM e, e1, e2, div_real _ (sum_exp_ne fun x => S x - M), wmean_shift]

end Cert.Attn

end
-- ==== Proof.Attn.Loop.lean ====
module

public import proofs.«01_k».proof.Proof.Gen.KernelIdeal.Value
public import Idealize.ShloMosaic.Lib.Pipeline.ValueKit
public import Idealize.ShloMosaic.Lib.WritesUnit
public import proofs.«01_k».proof.Proof.Attn.Tile
public import proofs.«01_k».proof.Proof.Attn.Math
public import Idealize.ShloMosaic.Lib.Pointwise

@[expose] public section

set_option maxRecDepth 16384

noncomputable section

open Idealize.ShloMosaic Idealize.ShloMosaic.TcCoe Idealize.SL.Sem

namespace Cert.Attn.Ker

open Cert.KernelIdeal Cert.KernelIdeal.Gen

/-- The score of row `r` against row `j` of tile `k`, map `p`. -/
def sK (x2 : Vec Ideal S512x128 .bf16) (x3 : Vec Ideal S8192x128 .bf16) (p : Fin 2) (r : Fin 512) (k : Fin 16) (j : Fin 512) : EReal :=
  ∑ c : Fin 64, x2 (ix2 r (⟨p.val * 64 + c.val, by omega⟩ : Fin 128))
    * x3 (ix2 (⟨k.val * 512 + j.val, by omega⟩ : Fin 8192) (⟨p.val * 64 + c.val, by omega⟩ : Fin 128))

/-- The values of tile `k` with the column of ones. -/
def vK (x4 : Vec Ideal S8192x128 .bf16) (k : Fin 16) (j : Fin 512) (d : Fin 256) : EReal :=
  if h : d.val < 128 then x4 (ix2 (⟨k.val * 512 + j.val, by omega⟩ : Fin 8192) (⟨d.val, h⟩ : Fin 128))
  else if d.val = 128 then 1 else 0

/-- The loop makes sixteen turns. -/
theorem trips : k0_t1_loop.trips = 16 := by decide +kernel

/-- Turn k reads from row 512 k. -/
theorem off1 : ∀ k : Fin k0_t1_loop.trips, k0_off1 k = ![k.val * 512, 0] := by decide +kernel

section
variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S2x512x256 .f32) (harg10 : arg10.IsWhole)
  (x2 : Vec Ideal S512x128 .bf16) (x3 : Vec Ideal S8192x128 .bf16) (x4 : Vec Ideal S8192x128 .bf16)

/-- A key or value tile's entry, in its whole block. -/
theorem readK (A : Memref sig .tc .vmem S8192x128 .bf16) (hA : A.IsWhole) (x : Vec Ideal S8192x128 .bf16)
    (k : Fin k0_t1_loop.trips) (inb) (j : Fin 512) (cc : Fin 128) :
    (View.readAt (Elt Ideal) A.view (Rect.unit (s := S8192x128) (k0_off1 k) ![512, 128] inb).toLoadRect (hA.unread x) : Vec Ideal S512x128 .bf16) (ix2 j cc)
      = x (ix2 (⟨k.val * 512 + j.val, by have : k.val < 16 := lt_of_lt_of_eq k.isLt trips; omega⟩ : Fin 8192) cc) := by
  rw [View.readAt_apply, hA.read_unread]
  congr 1
  funext a
  have h := congrFun (off1 k) a
  apply Fin.ext
  show k0_off1 k a + 1 * _ = _
  rw [h]
  fin_cases a <;> simp [ix2]

/-- The first map's queries are columns 0 to 63. -/
theorem readQ0 (r : Fin 512) (cc : Fin 64) (inb) :
    (View.readAt (Elt Ideal) arg5.view (Rect.unit (s := S512x128) ![0, 0] ![512, 64] inb).toLoadRect (harg5.unread x2) : Vec Ideal S512x64 .bf16) (ix2 r cc)
      = x2 (ix2 r (⟨cc.val, by omega⟩ : Fin 128)) := by
  rw [View.readAt_apply, harg5.read_unread]
  congr 1
  funext a
  apply Fin.ext
  fin_cases a
  · show 0 + 1 * r.val = r.val; omega
  · show 0 + 1 * cc.val = cc.val; omega

/-- The second map's queries are columns 64 to 127. -/
theorem readQ1 (r : Fin 512) (cc : Fin 64) (inb) :
    (View.readAt (Elt Ideal) arg5.view (Rect.unit (s := S512x128) ![0, 64] ![512, 64] inb).toLoadRect (harg5.unread x2) : Vec Ideal S512x64 .bf16) (ix2 r cc)
      = x2 (ix2 r (⟨64 + cc.val, by omega⟩ : Fin 128)) := by
  rw [View.readAt_apply, harg5.read_unread]
  congr 1
  funext a
  apply Fin.ext
  fin_cases a
  · show 0 + 1 * r.val = r.val; omega
  · show 64 + 1 * cc.val = 64 + cc.val; omega

/-- Reading map p's running maximum. -/
theorem readM (p : Fin 2) (f : BufTy.Contents (Elt Ideal) arg9.view.ty) (o : Fin 3 → ℕ) (ho : o = ![p.val, 0, 0]) (inb) (r : Fin 512) :
    (View.readAt (Elt Ideal) arg9.view (Rect.unit (s := S2x512x1) o ![1, 512, 1] inb).toLoadRect f : Vec Ideal S1x512x1 .f32) (ix3 0 r 0)
      = arg9.view.read (Elt Ideal) f (ix3 p r 0) := by
  subst ho
  rw [View.readAt_apply]
  congr 1
  funext a
  apply Fin.ext
  fin_cases a
  · show p.val + 1 * 0 = p.val; omega
  · show 0 + 1 * r.val = r.val; omega
  · show 0 + 1 * 0 = 0; omega

/-- Reading map p's accumulator. -/
theorem readA (p : Fin 2) (f : BufTy.Contents (Elt Ideal) arg10.view.ty) (o : Fin 3 → ℕ) (ho : o = ![p.val, 0, 0]) (inb) (r : Fin 512) (d : Fin 256) :
    (View.readAt (Elt Ideal) arg10.view (Rect.unit (s := S2x512x256) o ![1, 512, 256] inb).toLoadRect f : Vec Ideal S1x512x256 .f32) (ix3 0 r d)
      = arg10.view.read (Elt Ideal) f (ix3 p r d) := by
  subst ho
  rw [View.readAt_apply]
  congr 1
  funext a
  apply Fin.ext
  fin_cases a
  · show p.val + 1 * 0 = p.val; omega
  · show 0 + 1 * r.val = r.val; omega
  · show 0 + 1 * d.val = d.val; omega

/-- Which of the two stored planes a place of the maxima lies in. -/
theorem hitM0 (f : BufTy.Contents (Elt Ideal) arg9.view.ty) (w1 w0 : FVec Ideal S1x512x1 .f32) (i1 i0) (r : Fin 512) :
    arg9.view.read (Elt Ideal) (arg9.view.writes (Elt Ideal) f [⟨Rect.unit ![1, 0, 0] ![1, 512, 1] i1, w1⟩, ⟨Rect.unit ![0, 0, 0] ![1, 512, 1] i0, w0⟩]) (ix3 0 r 0) = w0 (ix3 0 r 0) := by
  rw [View.read_writes_cons_unit_of_not_mem _ _ _ _ _ _ rfl 0 (Or.inl (show (0 : ℕ) < 1 by decide))]
  refine View.read_writes_cons_unit_of_mem (off' := ![0, 0, 0]) arg9.view f i0 w0 _ _ (ix3 0 r 0) rfl ?_
  intro a; fin_cases a
  · rfl
  · show r.val = 0 + r.val; omega
  · rfl

/-- After both maxima are stored, the second map's is the second one stored. -/
theorem hitM1 (f : BufTy.Contents (Elt Ideal) arg9.view.ty) (w1 w0 : FVec Ideal S1x512x1 .f32) (i1 i0) (r : Fin 512) :
    arg9.view.read (Elt Ideal) (arg9.view.writes (Elt Ideal) f [⟨Rect.unit ![1, 0, 0] ![1, 512, 1] i1, w1⟩, ⟨Rect.unit ![0, 0, 0] ![1, 512, 1] i0, w0⟩]) (ix3 1 r 0) = w1 (ix3 0 r 0) := by
  refine View.read_writes_cons_unit_of_mem (off' := ![1, 0, 0]) arg9.view f i1 w1 _ _ (ix3 0 r 0) rfl ?_
  intro a; fin_cases a
  · rfl
  · show r.val = 0 + r.val; omega
  · rfl

/-- After both accumulators are stored, the first map's is the first one stored. -/
theorem hitA0 (f : BufTy.Contents (Elt Ideal) arg10.view.ty) (w1 w0 : FVec Ideal S1x512x256 .f32) (i1 i0) (r : Fin 512) (d : Fin 256) :
    arg10.view.read (Elt Ideal) (arg10.view.writes (Elt Ideal) f [⟨Rect.unit ![1, 0, 0] ![1, 512, 256] i1, w1⟩, ⟨Rect.unit ![0, 0, 0] ![1, 512, 256] i0, w0⟩]) (ix3 0 r d) = w0 (ix3 0 r d) := by
  rw [View.read_writes_cons_unit_of_not_mem _ _ _ _ _ _ rfl 0 (Or.inl (show (0 : ℕ) < 1 by decide))]
  refine View.read_writes_cons_unit_of_mem (off' := ![0, 0, 0]) arg10.view f i0 w0 _ _ (ix3 0 r d) rfl ?_
  intro a; fin_cases a
  · rfl
  · show r.val = 0 + r.val; omega
  · show d.val = 0 + d.val; omega

/-- After both accumulators are stored, the second map's is the second one stored. -/
theorem hitA1 (f : BufTy.Contents (Elt Ideal) arg10.view.ty) (w1 w0 : FVec Ideal S1x512x256 .f32) (i1 i0) (r : Fin 512) (d : Fin 256) :
    arg10.view.read (Elt Ideal) (arg10.view.writes (Elt Ideal) f [⟨Rect.unit ![1, 0, 0] ![1, 512, 256] i1, w1⟩, ⟨Rect.unit ![0, 0, 0] ![1, 512, 256] i0, w0⟩]) (ix3 1 r d) = w1 (ix3 0 r d) := by
  refine View.read_writes_cons_unit_of_mem (off' := ![1, 0, 0]) arg10.view f i1 w1 _ _ (ix3 0 r d) rfl ?_
  intro a; fin_cases a
  · rfl
  · show r.val = 0 + r.val; omega
  · show d.val = 0 + d.val; omega

/-- What one tile stores for a row of the first map, from what its loads read. -/
theorem pure0 (kb vb : Vec Ideal S512x128 .bf16) (qb : Vec Ideal S512x64 .bf16) (mo : Vec Ideal S1x512x1 .f32) (ao : Vec Ideal S1x512x256 .f32)
    (k : Fin 16) (r : Fin 512) (m m' : EReal) (acc : Fin 256 → EReal)
    (hk : ∀ (j : Fin 512) (cc : Fin 128), kb (ix2 j cc) = x3 (ix2 (⟨k.val * 512 + j.val, by omega⟩ : Fin 8192) cc))
    (hv : ∀ (j : Fin 512) (cc : Fin 128), vb (ix2 j cc) = x4 (ix2 (⟨k.val * 512 + j.val, by omega⟩ : Fin 8192) cc))
    (hq : ∀ cc : Fin 64, qb (ix2 r cc) = x2 (ix2 r (⟨cc.val, by omega⟩ : Fin 128)))
    (hmo : mo (ix3 0 r 0) = m) (hao : ∀ d, ao (ix3 0 r d) = acc d)
    (hm' : m' = max m (Finset.univ.fold max (⊥ : EReal) (fun j => sK x2 x3 0 r k j))) :
    k0_pay7 kb qb mo (ix3 0 r 0) = m'
      ∧ ∀ d : Fin 256, k0_pay6 k0_pay11 kb vb qb mo ao (ix3 0 r d)
        = Ideal.exp (m - m') * acc d + ∑ j, Ideal.exp (sK x2 x3 0 r k j - m') * vK x4 k j d := by
  have hs : ∀ j : Fin 512, k0_pay3 kb qb (ix2 r j) = sK x2 x3 0 r k j := by
    intro j
    rw [pay3_at]
    unfold sK
    refine Finset.sum_congr rfl fun cc _ => ?_
    rw [hk, hq]
    congr 3 <;> simp
  have hmx : k0_pay5 kb qb mo (ix2 r 0) = m' := by
    rw [pay5_at, hmo, hm']
    simp only [hs]
  have hvx : ∀ (j : Fin 512) (d : Fin 256), vext vb j d = vK x4 k j d := by
    intro j d
    unfold vext vK
    simp only [hv]
  refine ⟨(pay7_at _ _ _ r).trans hmx, fun d => ?_⟩
  rw [pay6_at, hmx, hmo, hao]
  simp only [hs, hvx]

/-- The same for the second map. -/
theorem pure1 (kb vb : Vec Ideal S512x128 .bf16) (qb : Vec Ideal S512x64 .bf16) (mo : Vec Ideal S1x512x1 .f32) (ao : Vec Ideal S1x512x256 .f32)
    (k : Fin 16) (r : Fin 512) (m m' : EReal) (acc : Fin 256 → EReal)
    (hk : ∀ (j : Fin 512) (cc : Fin 128), kb (ix2 j cc) = x3 (ix2 (⟨k.val * 512 + j.val, by omega⟩ : Fin 8192) cc))
    (hv : ∀ (j : Fin 512) (cc : Fin 128), vb (ix2 j cc) = x4 (ix2 (⟨k.val * 512 + j.val, by omega⟩ : Fin 8192) cc))
    (hq : ∀ cc : Fin 64, qb (ix2 r cc) = x2 (ix2 r (⟨64 + cc.val, by omega⟩ : Fin 128)))
    (hmo : mo (ix3 0 r 0) = m) (hao : ∀ d, ao (ix3 0 r d) = acc d)
    (hm' : m' = max m (Finset.univ.fold max (⊥ : EReal) (fun j => sK x2 x3 1 r k j))) :
    k0_pay16 qb (k0_pay8 kb) mo (ix3 0 r 0) = m'
      ∧ ∀ d : Fin 256, k0_pay15 (k0_pay2 k0_pay11 vb) qb (k0_pay8 kb) mo ao (ix3 0 r d)
        = Ideal.exp (m - m') * acc d + ∑ j, Ideal.exp (sK x2 x3 1 r k j - m') * vK x4 k j d := by
  have hs : ∀ j : Fin 512, k0_pay12 qb (k0_pay8 kb) (ix2 r j) = sK x2 x3 1 r k j := by
    intro j
    rw [pay12_at]
    unfold sK
    refine Finset.sum_congr rfl fun cc _ => ?_
    rw [hk, hq]
    rfl
  have hmx : k0_pay14 qb (k0_pay8 kb) mo (ix2 r 0) = m' := by
    rw [pay14_at, hmo, hm']
    simp only [hs]
  have hvx : ∀ (j : Fin 512) (d : Fin 256), vext vb j d = vK x4 k j d := by
    intro j d
    unfold vext vK
    simp only [hv]
  refine ⟨(pay16_at _ _ _ r).trans hmx, fun d => ?_⟩
  rw [pay15_at, hmx, hmo, hao]
  simp only [hs, hvx]

/-- One tile of the loop, read at a row of either map: the new maximum and the new sums. -/
theorem step (k : Fin k0_t1_loop.trips) (f9 : BufTy.Contents (Elt Ideal) arg9.view.ty) (f10 : BufTy.Contents (Elt Ideal) arg10.view.ty)
    (p : Fin 2) (r : Fin 512) (m m' : EReal)
    (hm : m = arg9.view.read (Elt Ideal) f9 (ix3 p r 0))
    (hm' : m' = max m (Finset.univ.fold max (⊥ : EReal) (fun j => sK x2 x3 p r (k.cast trips) j))) :
    arg9.view.read (Elt Ideal) (arg9.view.writes (Elt Ideal) f9 (tripL_k0_t1 (F := Ideal) Variants.none c none i arg3 harg3 arg4 harg4 arg5 harg5 arg6 harg6 arg7 harg7 arg8 harg8 arg9 harg9 arg10 harg10 (harg5.unread x2) (harg6.unread x3) (harg7.unread x4) k f9 f10).1) (ix3 p r 0) = m'
    ∧ ∀ d : Fin 256, arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 (harg5.unread x2) (harg6.unread x3) (harg7.unread x4) k f9 f10).2) (ix3 p r d)
      = Ideal.exp (m - m') * arg10.view.read (Elt Ideal) f10 (ix3 p r d)
        + ∑ j, Ideal.exp (sK x2 x3 p r (k.cast trips) j - m') * vK x4 (k.cast trips) j d := by
  unfold tripL_k0_t1 trip_k0_t1
  dsimp only
  sl_unfold_words
  obtain rfl | rfl : p = 0 ∨ p = 1 := by omega
  · have key := pure0 x2 x3 x4 _ _ _ _ _ (k.cast trips) r m m' (fun d => arg10.view.read (Elt Ideal) f10 (ix3 0 r d))
      (fun j cc => readK arg6 harg6 x3 k (k0_off1_inb k) j cc) (fun j cc => readK arg7 harg7 x4 k (k0_off1_inb k) j cc) (fun cc => readQ0 arg5 harg5 x2 r cc inb_S512x128_S512x64_0_0)
      ((readM arg9 0 f9 ![0, 0, 0] rfl inb_S2x512x1_S1x512x1_0_0_0 r).trans hm.symm) (fun d => readA arg10 0 f10 ![0, 0, 0] rfl inb_S2x512x256_S1x512x256_0_0_0 r d) hm'
    refine ⟨(hitM0 arg9 _ _ _ _ _ r).trans key.1, fun d => (hitA0 arg10 _ _ _ _ _ r d).trans (key.2 d)⟩
  · have key := pure1 x2 x3 x4 _ _ _ _ _ (k.cast trips) r m m' (fun d => arg10.view.read (Elt Ideal) f10 (ix3 1 r d))
      (fun j cc => readK arg6 harg6 x3 k (k0_off1_inb k) j cc) (fun j cc => readK arg7 harg7 x4 k (k0_off1_inb k) j cc) (fun cc => readQ1 arg5 harg5 x2 r cc inb_S512x128_S512x64_0_64)
      ((readM arg9 1 f9 ![1, 0, 0] rfl inb_S2x512x1_S1x512x1_1_0_0 r).trans hm.symm) (fun d => readA arg10 1 f10 ![1, 0, 0] rfl inb_S2x512x256_S1x512x256_1_0_0 r d) hm'
    refine ⟨(hitM1 arg9 _ _ _ _ _ r).trans key.1, fun d => (hitA1 arg10 _ _ _ _ _ r d).trans (key.2 d)⟩

end

end Cert.Attn.Ker

end
-- ==== Proof.Attn.Body.lean ====
module

public import proofs.«01_k».proof.Proof.Attn.Loop
public import Idealize.ShloMosaic.Lib.Pointwise

@[expose] public section

set_option maxRecDepth 16384

noncomputable section

open Idealize.ShloMosaic Idealize.ShloMosaic.TcCoe Idealize.SL.Sem

namespace Cert.Attn.Ker

open Cert.KernelIdeal Cert.KernelIdeal.Gen

/-- The scores of a row as real numbers, against every key row. -/
def rS (q : Fin 512 → Fin 128 → ℝ) (K : Fin 8192 → Fin 128 → ℝ) (p : Fin 2) (r : Fin 512) (J : Fin 8192) : ℝ :=
  ∑ c : Fin 64, q r ⟨p.val * 64 + c.val, by omega⟩ * K J ⟨p.val * 64 + c.val, by omega⟩

/-- The same by tile. -/
def tS (q : Fin 512 → Fin 128 → ℝ) (K : Fin 8192 → Fin 128 → ℝ) (p : Fin 2) (r : Fin 512) (k : ℕ) (j : Fin 512) : ℝ :=
  if h : k < 16 then rS q K p r ⟨k * 512 + j.val, by omega⟩ else 0

/-- The values and the ones by tile. -/
def tW (W : Fin 8192 → Fin 128 → ℝ) (k : ℕ) (j : Fin 512) (d : Fin 256) : ℝ :=
  if h : k < 16 then (if hd : d.val < 128 then W ⟨k * 512 + j.val, by omega⟩ ⟨d.val, hd⟩ else if d.val = 128 then 1 else 0) else 0

section
variable (x2 : Vec Ideal S512x128 .bf16) (x3 : Vec Ideal S8192x128 .bf16) (x4 : Vec Ideal S8192x128 .bf16)
  (q : Fin 512 → Fin 128 → ℝ) (K W : Fin 8192 → Fin 128 → ℝ)
  (h2 : ∀ r c, x2 (ix2 r c) = (q r c : EReal)) (h3 : ∀ r c, x3 (ix2 r c) = (K r c : EReal)) (h4 : ∀ r c, x4 (ix2 r c) = (W r c : EReal))

include h2 h3 in
/-- A score of the tile is the real score. -/
theorem sK_real (p : Fin 2) (r : Fin 512) (k : Fin 16) (j : Fin 512) : sK x2 x3 p r k j = (tS q K p r k.val j : EReal) := by
  unfold sK tS rS
  rw [dif_pos k.isLt, coe_sum]
  refine Finset.sum_congr rfl fun c _ => ?_
  rw [h2, h3, EReal.coe_mul]

include h4 in
/-- An entry of the extended value tile is the real one. -/
theorem vK_real (k : Fin 16) (j : Fin 512) (d : Fin 256) : vK x4 k j d = (tW W k.val j d : EReal) := by
  unfold vK tW
  rw [dif_pos k.isLt]
  by_cases hd : d.val < 128
  · rw [dif_pos hd, dif_pos hd, h4]
  · rw [dif_neg hd, dif_neg hd]
    by_cases he : d.val = 128 <;> simp [he]

variable (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S2x512x256 .f32) (harg10 : arg10.IsWhole)

/-- What the two buffers hold before the first tile. -/
abbrev G9 : BufTy.Contents (Elt Ideal) arg9.view.ty :=
  arg9.view.writes (Elt Ideal) arg9.view.junk [⟨Rect.unit ![0,0,0] ![2,512,1] inb_S2x512x1_S2x512x1_0_0_0, k0_pay9 (F := Ideal)⟩]
/-- The accumulator scratch after its zeros are stored. -/
abbrev G10 : BufTy.Contents (Elt Ideal) arg10.view.ty :=
  arg10.view.writes (Elt Ideal) arg10.view.junk [⟨Rect.unit ![0,0,0] ![2,512,256] inb_S2x512x256_S2x512x256_0_0_0, k0_pay10 (F := Ideal)⟩]

/-- The running maximum starts at −∞. -/
theorem readG9 (p : Fin 2) (r : Fin 512) : arg9.view.read (Elt Ideal) (G9 arg9) (ix3 p r 0) = (⊥ : EReal) := by
  rw [← pay9_at p r]
  refine View.read_writes_cons_unit_of_mem (Val := Elt Ideal) (off' := ![0, 0, 0]) arg9.view arg9.view.junk inb_S2x512x1_S2x512x1_0_0_0 (k0_pay9 (F := Ideal)) _ _ (ix3 p r 0) rfl ?_
  intro a; fin_cases a
  · show p.val = 0 + p.val; omega
  · show r.val = 0 + r.val; omega
  · rfl

/-- The accumulator starts at zero. -/
theorem readG10 (p : Fin 2) (r : Fin 512) (d : Fin 256) : arg10.view.read (Elt Ideal) (G10 arg10) (ix3 p r d) = (0 : EReal) := by
  rw [← pay10_at p r d]
  refine View.read_writes_cons_unit_of_mem (Val := Elt Ideal) (off' := ![0, 0, 0]) arg10.view arg10.view.junk inb_S2x512x256_S2x512x256_0_0_0 (k0_pay10 (F := Ideal)) _ _ (ix3 p r d) rfl ?_
  intro a; fin_cases a
  · show p.val = 0 + p.val; omega
  · show r.val = 0 + r.val; omega
  · show d.val = 0 + d.val; omega

/-- The pieces stored by the first `k` tiles. -/
abbrev pcs (k : ℕ) := pb_k0_t1 (F := Ideal) Variants.none c none i arg3 harg3 arg4 harg4 arg5 harg5 arg6 harg6 arg7 harg7 arg8 harg8 arg9 harg9 arg10 harg10 (harg5.unread x2) (harg6.unread x3) (harg7.unread x4) (G9 arg9) (G10 arg10) k

include h2 h3 h4 in
/-- The loop's invariant: after `k` tiles each row holds the running maximum and the shifted sums over those tiles. -/
theorem inv (p : Fin 2) (r : Fin 512) : ∀ k : ℕ, k ≤ 16 →
    Held 512 (tS q K p r) (tW W) k
      (arg9.view.read (Elt Ideal) (arg9.view.writes (Elt Ideal) (G9 arg9) (pcs x2 x3 x4 c i arg3 harg3 arg4 harg4 arg5 harg5 arg6 harg6 arg7 harg7 arg8 harg8 arg9 harg9 arg10 harg10 k).1) (ix3 p r 0))
      (fun d => arg10.view.read (Elt Ideal) (arg10.view.writes (Elt Ideal) (G10 arg10) (pcs x2 x3 x4 c i arg3 harg3 arg4 harg4 arg5 harg5 arg6 harg6 arg7 harg7 arg8 harg8 arg9 harg9 arg10 harg10 k).2) (ix3 p r d)) := by
  intro k
  induction k with
  | zero =>
    intro _
    have e9 := readG9 arg9 p r
    have e10 := fun d => readG10 arg10 p r d
    exact Or.inl ⟨rfl, e9, e10⟩
  | succ k ih =>
    intro hk
    have h := ih (by omega)
    have hk' : k < k0_t1_loop.trips := by rw [trips]; omega
    have es := pb_k0_t1_succ (F := Ideal) Variants.none c none i arg3 harg3 arg4 harg4 arg5 harg5 arg6 harg6 arg7 harg7 arg8 harg8 arg9 harg9 arg10 harg10 (harg5.unread x2) (harg6.unread x3) (harg7.unread x4) (G9 arg9) (G10 arg10) ⟨k, hk'⟩
    have st := step c i arg3 harg3 arg4 harg4 arg5 harg5 arg6 harg6 arg7 harg7 arg8 harg8 arg9 harg9 arg10 harg10 x2 x3 x4 ⟨k, hk'⟩
      (arg9.view.writes (Elt Ideal) (G9 arg9) (pcs x2 x3 x4 c i arg3 harg3 arg4 harg4 arg5 harg5 arg6 harg6 arg7 harg7 arg8 harg8 arg9 harg9 arg10 harg10 k).1)
      (arg10.view.writes (Elt Ideal) (G10 arg10) (pcs x2 x3 x4 c i arg3 harg3 arg4 harg4 arg5 harg5 arg6 harg6 arg7 harg7 arg8 harg8 arg9 harg9 arg10 harg10 k).2)
      p r _ _ rfl rfl
    unfold pcs
    rw [es]
    dsimp only
    rw [View.writes_append, View.writes_append]
    refine held_succ (by decide) _ _ k _ _ _ _ h (st.1.trans ?_) fun d => (st.2 d).trans ?_
    · congr 2
      funext j
      exact sK_real x2 x3 q K h2 h3 p r _ j
    · rw [← st.1]
      congr 1
      refine Finset.sum_congr rfl fun j _ => ?_
      rw [sK_real x2 x3 q K h2 h3 p r _ j, vK_real x4 W h4]
      rfl

include h2 h3 h4 in
/-- After the last tile a row's quotient is the softmax mean of the values. -/
theorem quot (p : Fin 2) (r : Fin 512) (d : Fin 128) :
    Ideal.div (arg10.view.read (Elt Ideal) (arg10.view.writes (Elt Ideal) (G10 arg10) (pcs x2 x3 x4 c i arg3 harg3 arg4 harg4 arg5 harg5 arg6 harg6 arg7 harg7 arg8 harg8 arg9 harg9 arg10 harg10 16).2) (ix3 p r (⟨d.val, by omega⟩ : Fin 256)))
      (arg10.view.read (Elt Ideal) (arg10.view.writes (Elt Ideal) (G10 arg10) (pcs x2 x3 x4 c i arg3 harg3 arg4 harg4 arg5 harg5 arg6 harg6 arg7 harg7 arg8 harg8 arg9 harg9 arg10 harg10 16).2) (ix3 p r 128))
      = ((wmean (rS q K p r) (fun J => W J d) : ℝ) : EReal) := by
  refine held_div (J := 16) (T := 512) (N := 8192) rfl (by decide) (tS q K p r) (tW W) _ _
    (inv x2 x3 x4 q K W h2 h3 h4 c i arg3 harg3 arg4 harg4 arg5 harg5 arg6 harg6 arg7 harg7 arg8 harg8 arg9 harg9 arg10 harg10 p r 16 (le_refl _)) _ _ (⟨d.val, by omega⟩ : Fin 256) (128 : Fin 256) ?_ ?_ ?_
  · intro j t h
    unfold tS
    rw [dif_pos j.isLt]
  · intro j t h
    unfold tW
    rw [dif_pos j.isLt, dif_pos d.isLt]
  · intro j t
    unfold tW
    rw [dif_pos j.isLt]
    simp

/-- The finished row from the mixed quotients. -/
def tail (o : Fin 128 → EReal) (g : EReal) (d : Fin 128) : EReal :=
  o d * Ideal.rsqrt (Ideal.div (∑ x : Fin 128, o x * o x) (Ideal.ofBits .f32 0x43000000#32) + Ideal.ofBits .f32 0x3727C5AC#32)
    * g * Ideal.ofBits .f32 0x3F4CCCCD#32

/-- The stored block is the head norm of the mixed rows. -/
theorem pay1_of (lam : FVec Ideal S1x1 .f32) (a0 a1 : Vec Ideal S1x512x256 .f32) (g : Vec Ideal S1x128 .f32) (r : Fin 512) (d : Fin 128)
    (o : Fin 128 → EReal) (ho : ∀ e, mix (lam (ix2 0 0)) a0 a1 r e = o e) : k0_pay1 lam a0 a1 g (ix2 r d) = tail o (g (ix2 0 d)) d := by
  rw [pay1_at]
  simp only [ho]
  rfl

/-- A plane of the sums as the epilogue reads it. -/
theorem fin_read (p : Fin 2) (n : ℕ) (hn : n = 16) (o : Fin 3 → ℕ) (ho : o = ![p.val, 0, 0]) (inb) (r : Fin 512) (d : Fin 256) :
    (arg10.view.readCov ((pcs x2 x3 x4 c i arg3 harg3 arg4 harg4 arg5 harg5 arg6 harg6 arg7 harg7 arg8 harg8 arg9 harg9 arg10 harg10 n).2
      ++ [⟨Rect.unit ![0,0,0] ![2,512,256] inb_S2x512x256_S2x512x256_0_0_0, k0_pay10 (F := Ideal)⟩]) (Rect.unit (s := S2x512x256) o ![1, 512, 256] inb).toLoadRect : Vec Ideal S1x512x256 .f32) (ix3 0 r d)
      = arg10.view.read (Elt Ideal) (arg10.view.writes (Elt Ideal) (G10 arg10) (pcs x2 x3 x4 c i arg3 harg3 arg4 harg4 arg5 harg5 arg6 harg6 arg7 harg7 arg8 harg8 arg9 harg9 arg10 harg10 16).2) (ix3 p r d) := by
  subst hn
  unfold View.readCov
  rw [View.writes_append]
  exact readA arg10 p _ o ho inb r d

include h2 h3 h4 in
set_option maxHeartbeats 2000000 in
/-- What the kernel's body stores for a row of its output block. -/
theorem out_at (x0 : Vec Ideal S4x64 .f32) (x1 : Vec Ideal S1x128 .f32) (r : Fin 512) (d : Fin 128) :
    out0_A_5 c i arg3 harg3 arg4 harg4 arg5 harg5 arg6 harg6 arg7 harg7 arg8 harg8 arg9 harg9 arg10 harg10 x0 x1 x2 x3 x4 (ix2 r d)
      = tail (fun e => ((wmean (rS q K 0 r) (fun J => W J e) : ℝ) : EReal)
          - k0_pay17 x0 (ix2 0 0) * ((wmean (rS q K 1 r) (fun J => W J e) : ℝ) : EReal)) (x1 (ix2 0 d)) d := by
  frame_out
  have ht : Scf.trips 0#32 (Scalar.addi 0#32 16#32) 1#32 = 16 := by decide +kernel
  refine pay1_of _ _ _ _ r d _ fun e => ?_
  unfold mix
  rw [← quot x2 x3 x4 q K W h2 h3 h4 c i arg3 harg3 arg4 harg4 arg5 harg5 arg6 harg6 arg7 harg7 arg8 harg8 arg9 harg9 arg10 harg10 0 r e,
      ← quot x2 x3 x4 q K W h2 h3 h4 c i arg3 harg3 arg4 harg4 arg5 harg5 arg6 harg6 arg7 harg7 arg8 harg8 arg9 harg9 arg10 harg10 1 r e]
  have f0 := fin_read x2 x3 x4 c i arg3 harg3 arg4 harg4 arg5 harg5 arg6 harg6 arg7 harg7 arg8 harg8 arg9 harg9 arg10 harg10 0 _ ht ![0, 0, 0] rfl inb_S2x512x256_S1x512x256_0_0_0 r
  have f1 := fin_read x2 x3 x4 c i arg3 harg3 arg4 harg4 arg5 harg5 arg6 harg6 arg7 harg7 arg8 harg8 arg9 harg9 arg10 harg10 1 _ ht ![1, 0, 0] rfl inb_S2x512x256_S1x512x256_1_0_0 r
  exact congrArg₂ (fun a b => a - k0_pay17 x0 (ix2 0 0) * b) (congrArg₂ Ideal.div (f0 _) (f0 _)) (congrArg₂ Ideal.div (f1 _) (f1 _))

end

end Cert.Attn.Ker

end
-- ==== Proof.Attn.Ref.lean ====
/-
  The attention's reference, read entry by entry. `Run.lean`'s composed term is restated as a chain of small
  definitions (queries, keys, values, scores, exponentials, softmax, the difference of the two maps, the weighted
  values, the normalised rows), and each is read at an index.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Attn.Ref

open Cert.ReferenceIdeal Cert.ReferenceIdeal.Gen

/-- The queries, by batch, head, map, row and channel. -/
def qh (X : FVec Ideal S16384x1536 .bf16) : FVec Ideal S2x4x2x8192x64 .f32 :=
  transpose S2x4x2x8192x64 [0, 2, 3, 1, 4] (shapeCast _ (extractStridedSlice S16384x512 ![0, 0] (extf .f32 X bitsLt_bf16_f32) slices_S16384x1536_S16384x512_0_0) shapeCasts_S16384x512_S2x8192x4x2x64) transposes_S2x8192x4x2x64_S2x4x2x8192x64_0_2_3_1_4

/-- The keys, likewise. -/
def kh (X : FVec Ideal S16384x1536 .bf16) : FVec Ideal S2x4x2x8192x64 .f32 :=
  transpose S2x4x2x8192x64 [0, 2, 3, 1, 4] (shapeCast _ (extractStridedSlice S16384x512 ![0, 512] (extf .f32 X bitsLt_bf16_f32) slices_S16384x1536_S16384x512_0_512) shapeCasts_S16384x512_S2x8192x4x2x64) transposes_S2x8192x4x2x64_S2x4x2x8192x64_0_2_3_1_4

/-- The values, by batch, head, row and channel. -/
def vh (X : FVec Ideal S16384x1536 .bf16) : FVec Ideal S2x4x8192x128 .f32 :=
  transpose S2x4x8192x128 [0, 2, 1, 3] (shapeCast _ (extractStridedSlice S16384x512 ![0, 1024] (extf .f32 X bitsLt_bf16_f32) slices_S16384x1536_S16384x512_0_1024) shapeCasts_S16384x512_S2x8192x4x128) transposes_S2x8192x4x128_S2x4x8192x128_0_2_1_3

/-- The scores. -/
def sc (X : FVec Ideal S16384x1536 .bf16) : FVec Ideal S2x4x2x8192x8192 .f32 :=
  Host.dotGeneral dot_S2x4x2x8192x64_S2x4x2x8192x64_S2x4x2x8192x8192_4_4_3_3_012_012 none (qh X) (kh X)

/-- Each row's largest score. -/
def mx (S : FVec Ideal S2x4x2x8192x8192 .f32) : FVec Ideal S2x4x2x8192 .f32 :=
  maximumf (broadcastInDim S2x4x2x8192 ![] bcast_S_S2x4x2x8192 (constant S_ .f32 0xFF800000#32)) (Host.reduce FloatOps.maximumf S (constant S_ .f32 0xFF800000#32) reducesTo_S2x4x2x8192x8192_S2x4x2x8192_d4 h_S_)

/-- A value per row, repeated along the row. -/
def rows (M : FVec Ideal S2x4x2x8192 .f32) : FVec Ideal S2x4x2x8192x8192 .f32 :=
  broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 M)

/-- The exponentials of the scores, each row shifted by its largest. -/
def ex (S : FVec Ideal S2x4x2x8192x8192 .f32) : FVec Ideal S2x4x2x8192x8192 .f32 :=
  Host.exp (subf S (rows (mx S)))

/-- The row sums of the exponentials. -/
def sm (E : FVec Ideal S2x4x2x8192x8192 .f32) : FVec Ideal S2x4x2x8192 .f32 :=
  Host.reduceAdd E (constant S_ .f32 0x00000000#32) reducesTo_S2x4x2x8192x8192_S2x4x2x8192_d4 h_S_

/-- The two softmax maps. -/
def pr (E : FVec Ideal S2x4x2x8192x8192 .f32) : FVec Ideal S2x4x2x8192x8192 .f32 :=
  Host.divf E (rows (sm E))

/-- The scalar the second map is weighted by. -/
def lam (L : FVec Ideal S1x4x64 .f32) : FVec Ideal S_ .f32 :=
  addf (subf (Host.exp (Host.reduceAdd (mulf (shapeCast _ (extractStridedSlice S1x64 ![0, 0] (shapeCast _ L shapeCasts_S1x4x64_S4x64) slices_S4x64_S1x64_0_0) shapeCasts_S1x64_S64) (shapeCast _ (extractStridedSlice S1x64 ![1, 0] (shapeCast _ L shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ L shapeCasts_S1x4x64_S4x64) slices_S4x64_S1x64_2_0) shapeCasts_S1x64_S64) (shapeCast _ (extractStridedSlice S1x64 ![3, 0] (shapeCast _ L shapeCasts_S1x4x64_S4x64) slices_S4x64_S1x64_3_0) shapeCasts_S1x64_S64)) (constant S_ .f32 0x00000000#32) reducesTo_S64_S_d0 h_S_))) (constant S_ .f32 0x3E4CCCCD#32)

/-- The difference of the two maps. -/
def df (P : FVec Ideal S2x4x2x8192x8192 .f32) (L : FVec Ideal S_ .f32) : FVec Ideal S2x4x8192x8192 .f32 :=
  subf (shapeCast _ (extractStridedSlice S2x4x1x8192x8192 ![0, 0, 0, 0, 0] P slices_S2x4x2x8192x8192_S2x4x1x8192x8192_0_0_0_0_0) shapeCasts_S2x4x1x8192x8192_S2x4x8192x8192) (mulf (broadcastInDim S2x4x8192x8192 ![] bcast_S_S2x4x8192x8192 L) (shapeCast _ (extractStridedSlice S2x4x1x8192x8192 ![0, 0, 1, 0, 0] P slices_S2x4x2x8192x8192_S2x4x1x8192x8192_0_0_1_0_0) shapeCasts_S2x4x1x8192x8192_S2x4x8192x8192))

/-- The weighted values. -/
def ot (D : FVec Ideal S2x4x8192x8192 .f32) (W : FVec Ideal S2x4x8192x128 .f32) : FVec Ideal S2x8192x4x128 .f32 :=
  transpose S2x8192x4x128 [0, 2, 1, 3] (Host.dotGeneral dot_S2x4x8192x8192_S2x4x8192x128_S2x4x8192x128_3_2_2_3_01_01 none D W) transposes_S2x4x8192x128_S2x8192x4x128_0_2_1_3

/-- The normalised rows. -/
def nr (O : FVec Ideal S2x8192x4x128 .f32) (G : FVec Ideal S1x128 .f32) : FVec Ideal S16384x512 .f32 :=
  shapeCast _ (mulf (mulf (mulf O (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf O O) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast _ G shapeCasts_S1x128_S128)))) (broadcastInDim S2x8192x4x128 ![] bcast_S_S2x8192x4x128 (constant S_ .f32 0x3F4CCCCD#32))) shapeCasts_S2x8192x4x128_S16384x512

/-- A maximum over the last of five axes, read at an index, at any sizes. -/
theorem reduceMax_last {n0 n1 n2 n3 n4 : ℕ} (S : FVec Ideal (⟨5, ![n0, n1, n2, n3, n4]⟩ : Shape) .f32) (v : FVec Ideal S_ .f32)
    (h : (⟨5, ![n0, n1, n2, n3, n4]⟩ : Shape).ReducesTo [4] (⟨4, ![n0, n1, n2, n3]⟩ : Shape)) (hS : 0 < S_.numel)
    (b : Fin n0) (c : Fin n1) (p : Fin n2) (i : Fin n3) :
    Host.reduce FloatOps.maximumf S v h hS (ix4 b c p i)
      = Finset.univ.fold max (v (Shape.Idx.first hS)) (fun x : Fin n4 => S (ix5 b c p i x)) := by
  pointwise

/-- A sum over the last of five axes, read at an index, at any sizes. -/
theorem reduceAdd_last {n0 n1 n2 n3 n4 : ℕ} (S : FVec Ideal (⟨5, ![n0, n1, n2, n3, n4]⟩ : Shape) .f32)
    (h : (⟨5, ![n0, n1, n2, n3, n4]⟩ : Shape).ReducesTo [4] (⟨4, ![n0, n1, n2, n3]⟩ : Shape)) (hS : 0 < S_.numel)
    (b : Fin n0) (c : Fin n1) (p : Fin n2) (i : Fin n3) :
    Host.reduceAdd S (constant S_ .f32 0x00000000#32) h hS (ix4 b c p i) = ∑ x : Fin n4, S (ix5 b c p i x) := by
  pointwise

/-- The maximum of two arrays, at an entry. -/
theorem maxf_at {T : Shape} (A R : FVec Ideal T .f32) (k : T.Idx) : maximumf A R k = max (A k) (R k) := rfl

/-- A constant, at an entry. -/
theorem const_at (b : BitVec 32) (k : S_.Idx) : constant (F := Ideal) S_ .f32 b k = Ideal.ofBits .f32 b := rfl

/-- The constant −∞ spread over the rows, at an entry. -/
theorem splat_at (k : S2x4x2x8192.Idx) : broadcastInDim S2x4x2x8192 ![] bcast_S_S2x4x2x8192 (constant (F := Ideal) S_ .f32 0xFF800000#32) k = Ideal.ofBits .f32 0xFF800000#32 := rfl

/-- The largest score of a row. -/
theorem mx_at (S : FVec Ideal S2x4x2x8192x8192 .f32) (b : Fin 2) (h : Fin 4) (p : Fin 2) (i : Fin 8192) :
    mx S (ix4 b h p i) = max (Ideal.ofBits FTy.f32 0xFF800000#32)
      (Finset.univ.fold max (Ideal.ofBits FTy.f32 0xFF800000#32) (fun x : Fin 8192 => S (ix5 b h p i x))) := by
  rw [mx, maxf_at, splat_at, reduceMax_last, const_at]

/-- A number per row spread along the row, at an entry. -/
theorem rows_at (M : FVec Ideal S2x4x2x8192 .f32) (b : Fin 2) (h : Fin 4) (p : Fin 2) (i j : Fin 8192) :
    rows M (ix5 b h p i j) = M (ix4 b h p i) := by
  pointwise [rows]

/-- The exponential of a score less its row's maximum. -/
theorem ex_at (S : FVec Ideal S2x4x2x8192x8192 .f32) (b : Fin 2) (h : Fin 4) (p : Fin 2) (i j : Fin 8192) :
    ex S (ix5 b h p i j) = Ideal.exp (S (ix5 b h p i j) - mx S (ix4 b h p i)) := by
  pointwise [ex, rows_at]

/-- The sum of a row's exponentials. -/
theorem sm_at (E : FVec Ideal S2x4x2x8192x8192 .f32) (b : Fin 2) (h : Fin 4) (p : Fin 2) (i : Fin 8192) :
    sm E (ix4 b h p i) = ∑ x : Fin 8192, E (ix5 b h p i x) := by
  rw [sm, reduceAdd_last]

/-- A softmax probability: an exponential over its row's sum. -/
theorem pr_at (E : FVec Ideal S2x4x2x8192x8192 .f32) (b : Fin 2) (h : Fin 4) (p : Fin 2) (i j : Fin 8192) :
    pr E (ix5 b h p i j) = Ideal.div (E (ix5 b h p i j)) (sm E (ix4 b h p i)) := by
  pointwise [pr, rows_at]

/-- Lambda from its four parameter rows. -/
theorem lam_at (L : FVec Ideal S1x4x64 .f32) (k : S_.Idx) : lam L k =
   (Ideal.exp (∑ x : Fin 64, L (ix3 0 0 x) * L (ix3 0 1 x)) - Ideal.exp (∑ x : Fin 64, L (ix3 0 2 x) * L (ix3 0 3 x))) + Ideal.ofBits .f32 0x3E4CCCCD#32 := by
  pointwise [lam]

/-- The first map less lambda times the second. -/
theorem df_at (P : FVec Ideal S2x4x2x8192x8192 .f32) (L : FVec Ideal S_ .f32) (b : Fin 2) (h : Fin 4) (i j : Fin 8192) :
    df P L (ix4 b h i j) = P (ix5 b h 0 i j) - L ix0 * P (ix5 b h 1 i j) := by
  pointwise [df]

/-- The differential map times the values. -/
theorem ot_at (D : FVec Ideal S2x4x8192x8192 .f32) (W : FVec Ideal S2x4x8192x128 .f32) (b : Fin 2) (h : Fin 4) (i : Fin 8192) (d : Fin 128) :
    ot D W (ix4 b i h d) = ∑ j : Fin 8192, D (ix4 b h i j) * W (ix4 b h j d) := by
  pointwise [ot]

/-- A score is the product of a query row and a key row. -/
theorem sc_at (X : FVec Ideal S16384x1536 .bf16) (b : Fin 2) (h : Fin 4) (p : Fin 2) (i j : Fin 8192) :
    sc X (ix5 b h p i j) = ∑ x : Fin 64, X (ix2 (⟨b.val * 8192 + i.val, by omega⟩ : Fin 16384) (⟨h.val * 128 + p.val * 64 + x.val, by omega⟩ : Fin 1536)) *
        X (ix2 (⟨b.val * 8192 + j.val, by omega⟩ : Fin 16384) (⟨512 + (h.val * 128 + p.val * 64 + x.val), by omega⟩ : Fin 1536)) := by
  pointwise [sc, qh, kh]

/-- A head's value, in the whole array. -/
theorem vh_at (X : FVec Ideal S16384x1536 .bf16) (b : Fin 2) (h : Fin 4) (j : Fin 8192) (d : Fin 128) :
    vh X (ix4 b h j d) = X (ix2 (⟨b.val * 8192 + j.val, by omega⟩ : Fin 16384) (⟨1024 + (h.val * 128 + d.val), by omega⟩ : Fin 1536)) := by
  pointwise [vh]

/-- The head norm's result, at an entry. -/
theorem nr_at (O : FVec Ideal S2x8192x4x128 .f32) (G : FVec Ideal S1x128 .f32) (r : Fin 16384) (l : Fin 512)
    (b : Fin 2) (i : Fin 8192) (h : Fin 4) (d : Fin 128) (hb : r.val / 8192 = b.val) (hi : r.val % 8192 = i.val)
    (hh : l.val / 128 = h.val) (hd : l.val % 128 = d.val) :
    nr O G (ix2 r l) =
      O (ix4 b i h d) * Ideal.rsqrt (Ideal.div (∑ x : Fin 128, O (ix4 b i h x) * O (ix4 b i h x)) (Ideal.ofBits FTy.f32 0x43000000#32)
        + Ideal.ofBits FTy.f32 0x3727C5AC#32) * G (ix2 0 d) * Ideal.ofBits FTy.f32 0x3F4CCCCD#32 := by
  obtain ⟨b, hb'⟩ := b
  obtain ⟨i, hi'⟩ := i
  obtain ⟨h, hh'⟩ := h
  obtain ⟨d, hd'⟩ := d
  dsimp only at hb hi hh hd
  subst hb hi hh hd
  pointwise [nr]

end Cert.Attn.Ref

end
-- ==== Proof.Attn.Point.lean ====
module

public import proofs.«01_k».proof.Proof.Attn.Body
public import proofs.«01_k».proof.Proof.Attn.Ref
public import Idealize.ShloMosaic.Lib.Pointwise

@[expose] public section

set_option maxRecDepth 16384

noncomputable section

open Idealize.ShloMosaic Idealize.ShloMosaic.TcCoe Idealize.SL.Sem

namespace Cert.Attn.Ref

open Cert.ReferenceIdeal Cert.ReferenceIdeal.Gen

/-- The reference's score of query row `i` against key row `J`, of batch `b`, head `h`, map `p`, as a real number. -/
def scR (X : FVec Ideal S16384x1536 .bf16) (b : Fin 2) (h : Fin 4) (p : Fin 2) (i J : Fin 8192) : ℝ :=
  ∑ x : Fin 64, (X (ix2 (⟨b.val * 8192 + i.val, by omega⟩ : Fin 16384) (⟨h.val * 128 + p.val * 64 + x.val, by omega⟩ : Fin 1536))).toReal *
        (X (ix2 (⟨b.val * 8192 + J.val, by omega⟩ : Fin 16384) (⟨512 + (h.val * 128 + p.val * 64 + x.val), by omega⟩ : Fin 1536))).toReal

/-- The reference's value of key row `J` as a real number. -/
def vhR (X : FVec Ideal S16384x1536 .bf16) (b : Fin 2) (h : Fin 4) (J : Fin 8192) (d : Fin 128) : ℝ :=
  (X (ix2 (⟨b.val * 8192 + J.val, by omega⟩ : Fin 16384) (⟨1024 + (h.val * 128 + d.val), by omega⟩ : Fin 1536))).toReal

/-- The mixing weight. -/
def lamE (L : FVec Ideal S1x4x64 .f32) : EReal :=
  (Ideal.exp (∑ x : Fin 64, L (ix3 0 0 x) * L (ix3 0 1 x)) - Ideal.exp (∑ x : Fin 64, L (ix3 0 2 x) * L (ix3 0 3 x))) + Ideal.ofBits .f32 0x3E4CCCCD#32

variable (X : FVec Ideal S16384x1536 .bf16) (L : FVec Ideal S1x4x64 .f32) (G : FVec Ideal S1x128 .f32)
  (hX : ∀ (a : Fin 16384) (b : Fin 1536), (((X (ix2 a b)).toReal : ℝ) : EReal) = X (ix2 a b))
  (hL : ∀ (a : Fin 1) (b : Fin 4) (d : Fin 64), (((L (ix3 a b d)).toReal : ℝ) : EReal) = L (ix3 a b d))

include hX in
/-- The reference's score is a real number. -/
theorem sc_real (b : Fin 2) (h : Fin 4) (p : Fin 2) (i J : Fin 8192) : sc X (ix5 b h p i J) = (scR X b h p i J : EReal) := by
  rw [sc_at, scR, coe_sum]
  refine Finset.sum_congr rfl fun x _ => ?_
  rw [EReal.coe_mul, hX, hX]

include hL in
/-- Lambda is a real number. -/
theorem lam_real : ∃ l : ℝ, lamE L = (l : EReal) := by
  have hc : ∃ c : ℝ, Ideal.ofBits .f32 0x3E4CCCCD#32 = (c : EReal) := by
    simp [Ideal.ofBits, Ideal.ieee, -EReal.coe_mul]
  obtain ⟨cc, hc⟩ := hc
  have hs : ∀ a b : Fin 4, ∃ s : ℝ, (∑ x : Fin 64, L (ix3 0 a x) * L (ix3 0 b x)) = (s : EReal) := by
    intro a b
    refine ⟨∑ x : Fin 64, (L (ix3 0 a x)).toReal * (L (ix3 0 b x)).toReal, ?_⟩
    rw [coe_sum]
    refine Finset.sum_congr rfl fun x _ => ?_
    rw [EReal.coe_mul, hL, hL]
  obtain ⟨s, hs1⟩ := hs 0 1
  obtain ⟨t, ht1⟩ := hs 2 3
  refine ⟨Real.exp s - Real.exp t + cc, ?_⟩
  rw [lamE, hs1, ht1, hc, Ideal.exp_coe, Ideal.exp_coe, EReal.coe_add, EReal.coe_sub]

include hX hL in
/-- The reference's entry before the norm. -/
theorem ot_real (b : Fin 2) (h : Fin 4) (i : Fin 8192) (d : Fin 128) :
    ot (df (pr (ex (sc X))) (lam L)) (vh X) (ix4 b i h d)
      = ((wmean (scR X b h 0 i) (fun J => vhR X b h J d) : ℝ) : EReal) - lamE L * ((wmean (scR X b h 1 i) (fun J => vhR X b h J d) : ℝ) : EReal) := by
  haveI : Nonempty (Fin 8192) := ⟨0⟩
  obtain ⟨l, hl⟩ := lam_real L hL
  have hM : ∀ p : Fin 2, ∃ M : ℝ, mx (sc X) (ix4 b h p i) = (M : EReal) := by
    intro p
    rw [mx_at]
    simp only [sc_real X hX, Ker.negInf]
    obtain ⟨M, hM⟩ := fold_max_real (scR X b h p i)
    exact ⟨M, by rw [hM]; exact max_eq_right bot_le⟩
  obtain ⟨M0, h0⟩ := hM 0
  obtain ⟨M1, h1⟩ := hM 1
  rw [ot_at]
  have hv : ∀ J, vh X (ix4 b h J d) = (vhR X b h J d : EReal) := by
    intro J
    rw [vh_at, vhR, hX]
  have hlam : lam L ix0 = (l : EReal) := by rw [lam_at, ← hl]; rfl
  simp only [df_at, pr_at, sm_at, ex_at, sc_real X hX, hv, h0, h1, hlam]
  rw [ref_entry, hl, EReal.coe_sub, EReal.coe_mul]

include hX hL in
/-- The reference's entry. -/
theorem ref_at (r : Fin 16384) (c : Fin 512) (b : Fin 2) (i : Fin 8192) (h : Fin 4) (d : Fin 128)
    (hb : r.val / 8192 = b.val) (hi : r.val % 8192 = i.val) (hh : c.val / 128 = h.val) (hd : c.val % 128 = d.val) :
    nr (ot (df (pr (ex (sc X))) (lam L)) (vh X)) G (ix2 r c)
      = Ker.tail (fun e => ((wmean (scR X b h 0 i) (fun J => vhR X b h J e) : ℝ) : EReal)
          - lamE L * ((wmean (scR X b h 1 i) (fun J => vhR X b h J e) : ℝ) : EReal)) (G (ix2 0 d)) d := by
  rw [nr_at _ _ r c b i h d hb hi hh hd]
  simp only [ot_real X L hX hL]
  rfl

end Cert.Attn.Ref

end
-- ==== Proof.Attn.Final.lean ====
module

public import proofs.«01_k».proof.Proof.Attn.Point
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Attn.Ker

open Cert.KernelIdeal Cert.KernelIdeal.Gen

/-- The block each step reads and writes, per window. -/
theorem idx : ∀ t : Fin cfg0.N, win0_0.index t = ![0, 0] ∧ win0_1.index t = ![0, 0]
    ∧ win0_2.index t = ![t.val / 64 * 16 + t.val % 16, t.val / 16 % 4]
    ∧ win0_3.index t = ![t.val / 64, 4 + t.val / 16 % 4]
    ∧ win0_4.index t = ![t.val / 64, 8 + t.val / 16 % 4]
    ∧ win0_5.index t = ![t.val / 64 * 16 + t.val % 16, t.val / 16 % 4] ∧ t.val < 128 :=
  (by decide +kernel : ∀ t : Fin grid0.N, _)

variable (m : (ℓ : Loc nD τ sig) → Buf (Elt Ideal) ℓ) (c : Dev nD)

/-- A query block's entry, in the whole array. -/
theorem blkQ (t : Fin cfg0.N) (r : Fin 512) (d : Fin 128) (a : Fin 16384) (b : Fin 1536)
    (ha : a.val = (t.val / 64 * 16 + t.val % 16) * 512 + r.val) (hb : b.val = t.val / 16 % 4 * 128 + d.val) :
    (iblk m c 2 t : Vec Ideal S512x128 .bf16) (ix2 r d) = (m ((c : Thread nD τ).loc main_arg0) : Vec Ideal S16384x1536 .bf16) (ix2 a b) := by
  blk_ext [iblk, V, idx t]

/-- A key block's entry, in the whole array. -/
theorem blkK (t : Fin cfg0.N) (r : Fin 8192) (d : Fin 128) (a : Fin 16384) (b : Fin 1536)
    (ha : a.val = t.val / 64 * 8192 + r.val) (hb : b.val = (4 + t.val / 16 % 4) * 128 + d.val) :
    (iblk m c 3 t : Vec Ideal S8192x128 .bf16) (ix2 r d) = (m ((c : Thread nD τ).loc main_arg0) : Vec Ideal S16384x1536 .bf16) (ix2 a b) := by
  blk_ext [iblk, V, idx t]

/-- A value block's entry, in the whole array. -/
theorem blkV (t : Fin cfg0.N) (r : Fin 8192) (d : Fin 128) (a : Fin 16384) (b : Fin 1536)
    (ha : a.val = t.val / 64 * 8192 + r.val) (hb : b.val = (8 + t.val / 16 % 4) * 128 + d.val) :
    (iblk m c 4 t : Vec Ideal S8192x128 .bf16) (ix2 r d) = (m ((c : Thread nD τ).loc main_arg0) : Vec Ideal S16384x1536 .bf16) (ix2 a b) := by
  blk_ext [iblk, V, idx t]

/-- An entry of lambda's parameters. -/
theorem blkL (t : Fin cfg0.N) (a : Fin 4) (d : Fin 64) :
    (iblk m c 0 t : Vec Ideal S4x64 .f32) (ix2 a d) = (m ((c : Thread nD τ).loc main_arg1) : Vec Ideal S1x4x64 .f32) (ix3 0 a d) := by
  blk_point [iblk, V, idx t]

/-- An entry of the norm's weight. -/
theorem blkG (t : Fin cfg0.N) (d : Fin 128) :
    (iblk m c 1 t : Vec Ideal S1x128 .f32) (ix2 0 d) = (m ((c : Thread nD τ).loc main_arg2) : Vec Ideal S1x128 .f32) (ix2 0 d) := by
  blk_point [iblk, V, idx t]

/-- The whole result array: the reference's chain of the three arguments. -/
theorem final (hX : ∀ (a : Fin 16384) (b : Fin 1536), ((((m ((c : Thread nD τ).loc main_arg0) : Vec Ideal S16384x1536 .bf16) (ix2 a b)).toReal : ℝ) : EReal) = (m ((c : Thread nD τ).loc main_arg0) : Vec Ideal S16384x1536 .bf16) (ix2 a b))
    (hL : ∀ (a : Fin 1) (b : Fin 4) (d : Fin 64), ((((m ((c : Thread nD τ).loc main_arg1) : Vec Ideal S1x4x64 .f32) (ix3 a b d)).toReal : ℝ) : EReal) = (m ((c : Thread nD τ).loc main_arg1) : Vec Ideal S1x4x64 .f32) (ix3 a b d)) :
    (dats m 0 c).arrAt 5 (cfgs 0).N = Ref.nr (Ref.ot (Ref.df (Ref.pr (Ref.ex (Ref.sc (m ((c : Thread nD τ).loc main_arg0))))) (Ref.lam (m ((c : Thread nD τ).loc main_arg1)))) (Ref.vh (m ((c : Thread nD τ).loc main_arg0)))) (m ((c : Thread nD τ).loc main_arg2)) := by
  refine (dats m 0 c).arrAt_eq_of_covers 5 _ (by decide +kernel) fun t _ y => ?_
  blk_simp
  rw [after0_5]
  unfold outsAt0
  have ht : t.val < 128 := (idx t).2.2.2.2.2.2
  obtain ⟨r, d, rfl⟩ : ∃ (r : Fin 512) (d : Fin 128), y = (ix2 r d : S512x128.Idx) := ⟨y 0, y 1, by funext a; fin_cases a <;> rfl⟩
  have e : (win0_5.blk t).view.emb (ix2 r d : S512x128.Idx)
      = (ix2 (⟨(t.val / 64 * 16 + t.val % 16) * 512 + r.val, by omega⟩ : Fin 16384) (⟨t.val / 16 % 4 * 128 + d.val, by omega⟩ : Fin 512) : S16384x512.Idx) := by
    blk_ext [idx t]
  rw [e]
  have hb : t.val / 64 < 2 := by omega
  have hh : t.val / 16 % 4 < 4 := by omega
  have hi : t.val % 16 * 512 + r.val < 8192 := by omega
  refine Eq.trans (out_at (iblk m c 2 t) (iblk m c 3 t) (iblk m c 4 t)
    (fun r d => ((iblk m c 2 t : Vec Ideal S512x128 .bf16) (ix2 r d)).toReal)
    (fun r d => ((iblk m c 3 t : Vec Ideal S8192x128 .bf16) (ix2 r d)).toReal)
    (fun r d => ((iblk m c 4 t : Vec Ideal S8192x128 .bf16) (ix2 r d)).toReal) ?_ ?_ ?_
    c _ _ _ _ _ _ _ _ _ _ _ _ _ _ _ _ _ (iblk m c 0 t) (iblk m c 1 t) r d) ?_
  · intro r d
    rw [blkQ m c t r d ⟨_, by omega⟩ ⟨_, by omega⟩ rfl rfl, hX]
  · intro r d
    rw [blkK m c t r d ⟨_, by omega⟩ ⟨_, by omega⟩ rfl rfl, hX]
  · intro r d
    rw [blkV m c t r d ⟨_, by omega⟩ ⟨_, by omega⟩ rfl rfl, hX]
  refine Eq.trans ?_ (Ref.ref_at (m ((c : Thread nD τ).loc main_arg0)) (m ((c : Thread nD τ).loc main_arg1)) (m ((c : Thread nD τ).loc main_arg2)) hX hL
    _ _ ⟨_, hb⟩ ⟨_, hi⟩ ⟨_, hh⟩ d (by dsimp only; omega) (by dsimp only; omega) (by dsimp only; omega) (by dsimp only; omega)).symm
  have eS : ∀ p : Fin 2, rS (fun r d => ((iblk m c 2 t : Vec Ideal S512x128 .bf16) (ix2 r d)).toReal)
      (fun r d => ((iblk m c 3 t : Vec Ideal S8192x128 .bf16) (ix2 r d)).toReal) p r
      = Ref.scR (m ((c : Thread nD τ).loc main_arg0)) ⟨_, hb⟩ ⟨_, hh⟩ p ⟨_, hi⟩ := by
    intro p
    funext J
    unfold rS Ref.scR
    refine Finset.sum_congr rfl fun x _ => ?_
    dsimp only
    rw [blkQ m c t r ⟨p.val * 64 + x.val, by omega⟩ ⟨t.val / 64 * 8192 + (t.val % 16 * 512 + r.val), by omega⟩ ⟨t.val / 16 % 4 * 128 + p.val * 64 + x.val, by omega⟩ (by dsimp only; omega) (by dsimp only; omega),
      blkK m c t J ⟨p.val * 64 + x.val, by omega⟩ ⟨t.val / 64 * 8192 + J.val, by omega⟩ ⟨512 + (t.val / 16 % 4 * 128 + p.val * 64 + x.val), by omega⟩ (by dsimp only) (by dsimp only; omega)]
  have eV : ∀ (e : Fin 128), (fun J => ((iblk m c 4 t : Vec Ideal S8192x128 .bf16) (ix2 J e)).toReal)
      = fun J => Ref.vhR (m ((c : Thread nD τ).loc main_arg0)) ⟨_, hb⟩ ⟨_, hh⟩ J e := by
    intro e
    funext J
    unfold Ref.vhR
    rw [blkV m c t J e ⟨t.val / 64 * 8192 + J.val, by omega⟩ ⟨1024 + (t.val / 16 % 4 * 128 + e.val), by omega⟩ (by dsimp only) (by dsimp only; omega)]
  have eL : k0_pay17 (iblk m c 0 t) (ix2 0 0) = Ref.lamE (m ((c : Thread nD τ).loc main_arg1)) := by
    rw [pay17_at, Ref.lamE]
    simp only [blkL]
  rw [eS 0, eS 1, eL, blkG]
  simp only [eV]

end Cert.Attn.Ker

end
-- ==== Proof.Attn.RefRun.lean ====
/- The attention's reference run ends at the chain of `Ref.lean`. -/
module

public import proofs.«01_k».proof.Proof.Gen.ReferenceIdeal.Run
public import proofs.«01_k».proof.Proof.Attn.Ref

@[expose] public section

set_option maxRecDepth 16384

noncomputable section

open Idealize.ShloMosaic Idealize.ShloMosaic.TcCoe Idealize.SL.Sem

namespace Cert.Attn.Ref

open Cert.ReferenceIdeal Cert.ReferenceIdeal.Gen

/-- The reference's result is that chain, of its three arguments. -/
theorem res_eq (m : (ℓ : Loc nD τ sig) → Buf (Elt Ideal) ℓ) (c : Dev nD) :
    Value.res_main_v64 m c = nr (ot (df (pr (ex (sc (m ((c.tc : Thread nD τ).loc main_arg0))))) (lam (m ((c.tc : Thread nD τ).loc main_arg1)))) (vh (m ((c.tc : Thread nD τ).loc main_arg0)))) (m ((c.tc : Thread nD τ).loc main_arg2)) := by
  unfold Value.res_main_v64 nr ot df lam pr sm ex rows mx sc qh kh vh
  rfl

end Cert.Attn.Ref

end
-- ==== Proof.Real.lean ====
module

public import proofs.«01_k».proof.Defs
public import Idealize.ShloMosaic.Lib.ReduceAll
public import Idealize.ShloMosaic.Lib.WordArith
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Real

/-- A value whose magnitude compares below +∞ is a real number. -/
theorem real_of_cmp (x : EReal) (h : BitVec.ofBool (decide (FloatOps.absf (F := Ideal) (φ := .f32) x < Ideal.ofBits .f32 0x7F800000#32)) = 1#1) :
    ((x.toReal : ℝ) : EReal) = x := by
  have ht : Ideal.ofBits .f32 0x7F800000#32 = ⊤ := by simp [Ideal.ofBits, Ideal.ieee]
  rw [ht, WordArith.ofBool_eq_one_iff, decide_eq_true_eq] at h
  induction x with
  | bot => exact absurd h (by show ¬ (max (⊥ : EReal) (-⊥) < ⊤); simp)
  | top => exact absurd h (by show ¬ (max (⊤ : EReal) (-⊤) < ⊤); simp)
  | coe r => simp

/-- Two bits whose conjunction is one are both one. -/
theorem andi_one (a b : BitVec 1) (h : IntOp.andi a b = 1#1) : a = 1#1 ∧ b = 1#1 := by
  revert a b; decide

/-- A conjunction over finitely many words is one only when every word is. -/
theorem fold_andi {ι : Type} [Fintype ι] (f : ι → BitVec 1) (h : Finset.univ.fold IntOp.andi (1#1) f = 1#1) (i : ι) : f i = 1#1 := by
  have key : ∀ s : Finset ι, s.fold IntOp.andi (1#1) f = 1#1 → ∀ i ∈ s, f i = 1#1 := by
    intro s
    induction s using Finset.cons_induction with
    | empty => intro _ i hi; simp at hi
    | cons a s ha ih =>
      intro h i hi
      rw [Finset.fold_cons] at h
      have h2 := andi_one _ _ h
      rcases Finset.mem_cons.mp hi with rfl | hi
      · exact h2.1
      · exact ih h2.2 i hi
  exact key _ h i (Finset.mem_univ i)

/-- The attention's precondition: its queries, keys and values, and the parameters of lambda, are real numbers. -/
theorem pre_x [hF : Cert.Pre_finite.Facts] (X : FVec Ideal Cert.Pre_finite.S16384x1536 .bf16) (L : FVec Ideal Cert.Pre_finite.S1x4x64 .f32) (G : FVec Ideal Cert.Pre_finite.S1x128 .f32)
    (h : Cert.Pre_finite.fn X L G = fun _ => 1#1) :
    (∀ (a : Fin 16384) (b : Fin 1536), (((X (ix2 a b)).toReal : ℝ) : EReal) = X (ix2 a b))
      ∧ ∀ (a : Fin 1) (b : Fin 4) (d : Fin 64), (((L (ix3 a b d)).toReal : ℝ) : EReal) = L (ix3 a b d) := by
  have h0 := congrFun h ix0
  pointwise [Cert.Pre_finite.fn] at h0
  obtain ⟨h1, h2⟩ := andi_one _ _ h0
  exact ⟨fun a b => real_of_cmp _ (fold_andi _ h1 (a, b)), fun a b d => real_of_cmp _ (fold_andi _ h2 (a, b, d))⟩

/-- The query product's precondition: the tokens and the weights are real numbers. -/
theorem pre_q [hF : Cert.Pre_finite_query.Facts] (X : FVec Ideal Cert.Pre_finite_query.S16384x1024 .f32) (W : FVec Ideal Cert.Pre_finite_query.S1x1024x2048 .f32)
    (h : Cert.Pre_finite_query.fn X W = fun _ => 1#1) :
    (∀ (a : Fin 16384) (b : Fin 1024), (((X (ix2 a b)).toReal : ℝ) : EReal) = X (ix2 a b))
      ∧ ∀ (a : Fin 1) (b : Fin 1024) (d : Fin 2048), (((W (ix3 a b d)).toReal : ℝ) : EReal) = W (ix3 a b d) := by
  have h0 := congrFun h ix0
  pointwise [Cert.Pre_finite_query.fn] at h0
  obtain ⟨h1, h2⟩ := andi_one _ _ h0
  exact ⟨fun a b => real_of_cmp _ (fold_andi _ h1 (a, b)), fun a b d => real_of_cmp _ (fold_andi _ h2 (a, b, d))⟩

end Cert.Real

end
-- ==== Proof.Attn.Claim.lean ====
module

public import proofs.«01_k».proof.Proof.Attn.Final
public import proofs.«01_k».proof.Proof.Attn.RefRun
public import proofs.«01_k».proof.Proof.Real
public import proofs.«01_k».proof.Proof.Gen.Pre_finite
public import Idealize.ShloMosaic.Lib.Pointwise

@[expose] public section

set_option maxRecDepth 16384

noncomputable section

open Idealize.ShloMosaic Idealize.ShloMosaic.TcCoe Idealize.SL.Sem

namespace Cert.Attn

/-- The attention's call computes the reference's attention. -/
theorem algebraic : Cert.algebraic_KernelIdeal_ReferenceIdeal_pre_finite := by
  pair_intro
  · run_from Cert.KernelIdeal.Value.run_blocks m g
  · run_from Cert.ReferenceIdeal.Value.run m' g'
    obtain ⟨hX, hL⟩ := Cert.Real.pre_x _ _ _ (hpre c)
    obtain ⟨e0, e1, e2⟩ := hagree c
    rw [Ref.res_eq, e0, e1, e2]
    exact (Ker.final m c hX hL).symm

end Cert.Attn

end
-- ==== Proof.Project.Claim.lean ====
module

public import proofs.«01_k».proof.Proof.Gen.ProjectIdeal.Value
public import proofs.«01_k».proof.Defs
public import proofs.«01_k».proof.Proof.Gen.ProjectReferenceIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Project

open Cert.ProjectIdeal Cert.ProjectIdeal.Gen

/-- The reference's result as a term over the tokens and the weights. -/
abbrev REF (X : FVec Ideal Cert.ProjectReferenceIdeal.S2x8192x1024 .f32) (Wt : FVec Ideal Cert.ProjectReferenceIdeal.S1x1024x5648 .f32) : FVec Ideal Cert.ProjectReferenceIdeal.S16384x5760 .f32 :=
  shapeCast _ ((concatenate Cert.ProjectReferenceIdeal.S2x8192x5760 2 [⟨Cert.ProjectReferenceIdeal.S2x8192x2048, ((extractStridedSlice Cert.ProjectReferenceIdeal.S2x8192x2048 ![0, 0, 3600] (Host.dotGeneral Cert.ProjectReferenceIdeal.dot_S2x8192x1024_S1024x5648_S2x8192x5648_2_0_01_1_n_n none X (shapeCast _ Wt Cert.ProjectReferenceIdeal.Gen.shapeCasts_S1x1024x5648_S1024x5648)) Cert.ProjectReferenceIdeal.Gen.slices_S2x8192x5648_S2x8192x2048_0_0_3600) : (⟨Cert.ProjectReferenceIdeal.S2x8192x2048, .f32⟩ : BufTy).Contents (Elt Ideal))⟩, ⟨Cert.ProjectReferenceIdeal.S2x8192x3584, ((extractStridedSlice Cert.ProjectReferenceIdeal.S2x8192x3584 ![0, 0, 0] (Host.dotGeneral Cert.ProjectReferenceIdeal.dot_S2x8192x1024_S1024x5648_S2x8192x5648_2_0_01_1_n_n none X (shapeCast _ Wt Cert.ProjectReferenceIdeal.Gen.shapeCasts_S1x1024x5648_S1024x5648)) Cert.ProjectReferenceIdeal.Gen.slices_S2x8192x5648_S2x8192x3584_0_0_0) : (⟨Cert.ProjectReferenceIdeal.S2x8192x3584, .f32⟩ : BufTy).Contents (Elt Ideal))⟩, ⟨Cert.ProjectReferenceIdeal.S2x8192x16, ((extractStridedSlice Cert.ProjectReferenceIdeal.S2x8192x16 ![0, 0, 3584] (Host.dotGeneral Cert.ProjectReferenceIdeal.dot_S2x8192x1024_S1024x5648_S2x8192x5648_2_0_01_1_n_n none X (shapeCast _ Wt Cert.ProjectReferenceIdeal.Gen.shapeCasts_S1x1024x5648_S1024x5648)) Cert.ProjectReferenceIdeal.Gen.slices_S2x8192x5648_S2x8192x16_0_0_3584) : (⟨Cert.ProjectReferenceIdeal.S2x8192x16, .f32⟩ : BufTy).Contents (Elt Ideal))⟩, ⟨Cert.ProjectReferenceIdeal.S2x8192x112, ((broadcastInDim Cert.ProjectReferenceIdeal.S2x8192x112 ![] Cert.ProjectReferenceIdeal.Gen.bcast_S_S2x8192x112 (constant (F := Ideal) Cert.ProjectReferenceIdeal.S_ .f32 0x00000000#32)) : (⟨Cert.ProjectReferenceIdeal.S2x8192x112, .f32⟩ : BufTy).Contents (Elt Ideal))⟩] Cert.ProjectReferenceIdeal.Gen.concatenates_S2x8192x2048_S2x8192x3584_S2x8192x16_S2x8192x112_S2x8192x5760_d2 : (⟨Cert.ProjectReferenceIdeal.S2x8192x5760, .f32⟩ : BufTy).Contents (Elt Ideal))) Cert.ProjectReferenceIdeal.Gen.shapeCasts_S2x8192x5760_S16384x5760

/-- The weights with their columns reordered and padded, as the kernel's host builds them. -/
def KW (Wt : FVec Ideal S1x1024x5648 .f32) : FVec Ideal S1024x5760 .bf16 :=
  truncf .bf16 (concatenate S1024x5760 1 [⟨S1024x2048, extractStridedSlice S1024x2048 ![0, 3600] (shapeCast S1024x5648 Wt shapeCasts_S1x1024x5648_S1024x5648) slices_S1024x5648_S1024x2048_0_3600⟩, ⟨S1024x3584, extractStridedSlice S1024x3584 ![0, 0] (shapeCast S1024x5648 Wt shapeCasts_S1x1024x5648_S1024x5648) slices_S1024x5648_S1024x3584_0_0⟩, ⟨S1024x16, extractStridedSlice S1024x16 ![0, 3584] (shapeCast S1024x5648 Wt shapeCasts_S1x1024x5648_S1024x5648) slices_S1024x5648_S1024x16_0_3584⟩, ⟨S1024x112, broadcastInDim S1024x112 ![] bcast_S_S1024x112 (constant (F := Ideal) S_ .f32 0x00000000#32)⟩] concatenates_S1024x2048_S1024x3584_S1024x16_S1024x112_S1024x5760_d1) bitsLt_bf16_f32

/-- An entry of the reference is the product with the reordered and padded weights: a zero column gives a zero. -/
theorem ref_at (X : FVec Ideal Cert.ProjectReferenceIdeal.S2x8192x1024 .f32) (Wt : FVec Ideal Cert.ProjectReferenceIdeal.S1x1024x5648 .f32) (R : Fin 16384) (D : Fin 5760) :
    REF X Wt (ix2 R D) = ∑ k : Fin 1024, X (ix3 ⟨R.val / 8192, by omega⟩ ⟨R.val % 8192, by omega⟩ k) * KW Wt (ix2 k D) := by
  pointwise [REF, KW]
  by_cases h1 : D.val < 2048
  · simp [h1]
  by_cases h2 : D.val - 2048 < 3584
  · simp [h1, h2]
  by_cases h3 : D.val - 2048 - 3584 < 16
  · simp [h1, h2, h3]
  · simp [h1, h2, h3]

/-- The block each step reads and writes, per window. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

variable (m : (ℓ : Loc nD τ sig) → Buf (Elt Ideal) ℓ)

/-- The token block at a point. -/
theorem blkX (c : Dev nD) (t : Fin cfg0.N) (r : Fin 512) (k : Fin 1024) (a : Fin 2) (b : Fin 8192)
    (hab : a.val * 8192 + b.val = 512 * (t.val / 5) + r.val) :
    (iblk m c 0 t : Vec Ideal S512x1024 .f32) (ix2 r k) = (m ((c : Thread nD τ).loc main_arg0) : Vec Ideal S2x8192x1024 .f32) (ix3 a b k) := by
  blk_point [iblk, V, idx t]

/-- The kernel's second operand is the reordered and padded weights. -/
theorem host_w (c : Dev nD) : V m c main_v7 = KW (m ((c : Thread nD τ).loc main_arg1)) := by
  show StableHlo.after hostOps0 (fun b => m (c, b)) main_v7 = _
  after_results <;> rfl

/-- The weight block at a point. -/
theorem blkW (c : Dev nD) (t : Fin cfg0.N) (k : Fin 1024) (d : Fin 1152) (D : Fin 5760) (hD : D.val = 1152 * (t.val % 5) + d.val) :
    (iblk m c 1 t : Vec Ideal S1024x1152 .bf16) (ix2 k d) = KW (m ((c : Thread nD τ).loc main_arg1)) (ix2 k D) := by
  show V m c main_v7 ((win0_1.blk t).view.emb (ix2 k d : S1024x1152.Idx)) = _
  rw [host_w]
  refine congrArg (KW _) ?_
  blk_ext [idx t]

/-- One block of the kernel is the reference's. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  obtain ⟨r, d, rfl⟩ : ∃ (r : Fin 512) (d : Fin 1152), y = (ix2 r d : S512x1152.Idx) := ⟨y 0, y 1, by funext a; fin_cases a <;> rfl⟩
  have ht : t.val < 160 := t.isLt
  have e : (win0_2.blk t).view.emb (ix2 r d : S512x1152.Idx) = ix2 (⟨512 * (t.val / 5) + r.val, by omega⟩ : Fin 16384) (⟨1152 * (t.val % 5) + d.val, by omega⟩ : Fin 5760) := by
    blk_ext [idx t]
  show _ = REF _ _ ((win0_2.blk t).view.emb (ix2 r d : S512x1152.Idx))
  rw [e, ref_at]
  pointwise [k0_pay1]
  exact Finset.sum_congr rfl fun k _ => congrArg₂ (· * ·) (blkX m c t r k _ _ (by simp only; omega)) (blkW m c t k d _ rfl)

/-- The whole result array is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The input projection's call computes the reference's projection. -/
theorem algebraic : Cert.algebraic_ProjectIdeal_ProjectReferenceIdeal := by
  pair_intro
  · run_from Cert.ProjectIdeal.Value.run_blocks m g
  · run_from Cert.ProjectReferenceIdeal.Value.run m' g'
    exact (final m c).symm

end Cert.Vals.Project

end
-- ==== Proof.Rope.Ref.lean ====
module

public import proofs.«01_k».proof.Proof.Gen.RopeReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Rope

open Cert.RopeReferenceIdeal Cert.RopeReferenceIdeal.Gen

/-- The angle of a position and a pair of channels. -/
def ang : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The queries, by batch, position, head, map and channel. -/
def sq (P : FVec Ideal S16384x5760 .f32) : FVec Ideal S2x8192x4x2x64 .f32 :=
  shapeCast _ (extractStridedSlice S16384x512 ![0, 2048] P slices_S16384x5760_S16384x512_0_2048) shapeCasts_S16384x512_S2x8192x4x2x64

/-- The keys, by batch, position, head, map and channel. -/
def sk (P : FVec Ideal S16384x5760 .f32) : FVec Ideal S2x8192x4x2x64 .f32 :=
  shapeCast _ (extractStridedSlice S16384x512 ![0, 2560] P slices_S16384x5760_S16384x512_0_2560) shapeCasts_S16384x512_S2x8192x4x2x64

/-- A table of positions and pairs, repeated for every batch, head and map. -/
def ev (C : FVec Ideal S8192x8 .f32) : FVec Ideal S2x8192x4x2x8 .f32 :=
  broadcastInDim S2x8192x4x2x8 ![0, 1, 2, 3, 4] bcast_S1x8192x1x1x8_S2x8192x4x2x8_0_1_2_3_4 (broadcastInDim S1x8192x1x1x8 ![1, 4] bcast_S8192x8_S1x8192x1x1x8_1_4 C)

/-- The first eight channels. -/
def t1 (T : FVec Ideal S2x8192x4x2x64 .f32) : FVec Ideal S2x8192x4x2x8 .f32 :=
  extractStridedSlice S2x8192x4x2x8 ![0, 0, 0, 0, 0] T slices_S2x8192x4x2x64_S2x8192x4x2x8_0_0_0_0_0

/-- The next eight channels. -/
def t2 (T : FVec Ideal S2x8192x4x2x64 .f32) : FVec Ideal S2x8192x4x2x8 .f32 :=
  extractStridedSlice S2x8192x4x2x8 ![0, 0, 0, 0, 8] T slices_S2x8192x4x2x64_S2x8192x4x2x8_0_0_0_0_8

/-- The first sixteen channels rotated, the others as they are. -/
def rot (T : FVec Ideal S2x8192x4x2x64 .f32) (C S : FVec Ideal S8192x8 .f32) : FVec Ideal S2x8192x4x2x64 .f32 :=
  concatenate S2x8192x4x2x64 4 [⟨S2x8192x4x2x8, subf (mulf (t1 T) (ev C)) (mulf (t2 T) (ev S))⟩, ⟨S2x8192x4x2x8, addf (mulf (t2 T) (ev C)) (mulf (t1 T) (ev S))⟩,
    ⟨S2x8192x4x2x48, extractStridedSlice S2x8192x4x2x48 ![0, 0, 0, 0, 16] T slices_S2x8192x4x2x64_S2x8192x4x2x48_0_0_0_0_16⟩] concatenates_S2x8192x4x2x8_S2x8192x4x2x8_S2x8192x4x2x48_S2x8192x4x2x64_d4

/-- The scaled queries, the keys and the values in one array. -/
def REF (Q K : FVec Ideal S2x8192x4x2x64 .f32) (P : FVec Ideal S16384x5760 .f32) : FVec Ideal S16384x1536 .bf16 :=
  truncf .bf16 (concatenate S16384x1536 1 [⟨S16384x512, shapeCast _ (mulf Q (broadcastInDim S2x8192x4x2x64 ![] bcast_S_S2x8192x4x2x64 (constant S_ .f32 0x3E000000#32))) shapeCasts_S2x8192x4x2x64_S16384x512⟩,
    ⟨S16384x512, shapeCast _ K shapeCasts_S2x8192x4x2x64_S16384x512⟩, ⟨S16384x512, extractStridedSlice S16384x512 ![0, 3072] P slices_S16384x5760_S16384x512_0_3072⟩] concatenates_S16384x512_S16384x512_S16384x512_S16384x1536_d1) bitsLt_bf16_f32

/-- The reference's result is the stages' composition. -/
theorem res_eq (m : (ℓ : Loc nD τ sig) → Buf (Elt Ideal) ℓ) (c : Dev nD) : Value.res_main_v58 m c =
    REF (rot (sq (m ((c : Thread nD τ).loc main_arg0))) (Host.cos ang) (Host.sin ang)) (rot (sk (m ((c : Thread nD τ).loc main_arg0))) (Host.cos ang) (Host.sin ang)) (m ((c : Thread nD τ).loc main_arg0)) := by
  unfold Value.res_main_v58 REF rot t1 t2 ev sq sk ang
  rfl

variable (T : FVec Ideal S2x8192x4x2x64 .f32) (C S : FVec Ideal S8192x8 .f32) (b : Fin 2) (s : Fin 8192) (h : Fin 4) (e : Fin 2) (d : Fin 64)

/-- A rotated channel of the first half. -/
theorem rot_lo (hd : d.val < 8) : rot T C S (ix5 b s h e d) = T (ix5 b s h e d) * C (ix2 s ⟨d.val, hd⟩) - T (ix5 b s h e ⟨8 + d.val, by omega⟩) * S (ix2 s ⟨d.val, hd⟩) := by
  pointwise [rot, t1, t2, ev]
  rw [dif_pos hd]

/-- A rotated channel of the second half. -/
theorem rot_mid (h0 : ¬ d.val < 8) (hd : d.val - 8 < 8) : rot T C S (ix5 b s h e d) = T (ix5 b s h e d) * C (ix2 s ⟨d.val - 8, hd⟩) + T (ix5 b s h e ⟨d.val - 8, by omega⟩) * S (ix2 s ⟨d.val - 8, hd⟩) := by
  have q : (⟨8 + (d.val - 8), by omega⟩ : Fin 64) = d := Fin.ext (by simp only; omega)
  pointwise [rot, t1, t2, ev]
  rw [dif_neg h0, dif_pos hd, q]

/-- A channel that is not rotated. -/
theorem rot_hi (h0 : ¬ d.val < 8) (hd : ¬ d.val - 8 < 8) : rot T C S (ix5 b s h e d) = T (ix5 b s h e d) := by
  have q : (⟨16 + (d.val - 8 - 8), by omega⟩ : Fin 64) = d := Fin.ext (by simp only; omega)
  pointwise [rot, t1, t2, ev]
  rw [dif_neg h0, dif_neg hd, q]

variable (P : FVec Ideal S16384x5760 .f32) (R : Fin 16384)

/-- An entry of the queries. -/
theorem sq_at : sq P (ix5 b s h e d) = P (ix2 (⟨b.val * 8192 + s.val, by omega⟩ : Fin 16384) ⟨2048 + (h.val * 128 + e.val * 64 + d.val), by omega⟩) := by
  pointwise [sq]

/-- An entry of the keys. -/
theorem sk_at : sk P (ix5 b s h e d) = P (ix2 (⟨b.val * 8192 + s.val, by omega⟩ : Fin 16384) ⟨2560 + (h.val * 128 + e.val * 64 + d.val), by omega⟩) := by
  pointwise [sk]

variable (Q K : FVec Ideal S2x8192x4x2x64 .f32) (p : Fin 4) (l : Fin 128)

/-- A scaled query in the result. -/
theorem ref_q : REF Q K P (ix2 R ⟨128 * p.val + l.val, by omega⟩) = Q (ix5 (⟨R.val / 8192, by omega⟩ : Fin 2) ⟨R.val % 8192, by omega⟩ p ⟨l.val / 64, by omega⟩ ⟨l.val % 64, by omega⟩) * (constant (F := Ideal) S_ .f32 0x3E000000#32 ix0) := by
  pointwise [REF]
  rw [dif_pos (by omega)]
  refine congrArg (· * _) ?_
  blk_ext

/-- A key in the result. -/
theorem ref_k : REF Q K P (ix2 R ⟨512 + 128 * p.val + l.val, by omega⟩) = K (ix5 (⟨R.val / 8192, by omega⟩ : Fin 2) ⟨R.val % 8192, by omega⟩ p ⟨l.val / 64, by omega⟩ ⟨l.val % 64, by omega⟩) := by
  pointwise [REF]
  rw [dif_neg (by omega), dif_pos (by omega)]
  blk_ext

/-- A value in the result. -/
theorem ref_v (x : Fin 512) : REF Q K P (ix2 R ⟨1024 + x.val, by omega⟩) = P (ix2 R ⟨3072 + x.val, by omega⟩) := by
  pointwise [REF]
  rw [dif_neg (by omega), dif_neg (by omega)]
  blk_ext

end Cert.Vals.Rope

end
-- ==== Proof.Rope.Tables.lean ====
module

public import proofs.«01_k».proof.Proof.Gen.RopeIdeal.Value
public import proofs.«01_k».proof.Defs
public import proofs.«01_k».proof.Proof.Gen.RopeReferenceIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Rope

open Cert.RopeIdeal Cert.RopeIdeal.Gen

/-- The cosines of both halves, and ones for the channels that stay. -/
def KC (C : FVec Ideal S8192x8 .f32) : FVec Ideal S8192x128 .f32 :=
  concatenate S8192x128 1 [⟨S8192x64, concatenate S8192x64 1 [⟨S8192x8, C⟩, ⟨S8192x8, C⟩, ⟨S8192x48, addf (broadcastInDim S8192x48 ![] bcast_S_S8192x48 (constant S_ .f32 0x00000000#32)) (broadcastInDim S8192x48 ![] bcast_S_S8192x48 (constant S_ .f32 0x3F800000#32))⟩] concatenates_S8192x8_S8192x8_S8192x48_S8192x64_d1⟩,
    ⟨S8192x64, concatenate S8192x64 1 [⟨S8192x8, C⟩, ⟨S8192x8, C⟩, ⟨S8192x48, addf (broadcastInDim S8192x48 ![] bcast_S_S8192x48 (constant S_ .f32 0x00000000#32)) (broadcastInDim S8192x48 ![] bcast_S_S8192x48 (constant S_ .f32 0x3F800000#32))⟩] concatenates_S8192x8_S8192x8_S8192x48_S8192x64_d1⟩] concatenates_S8192x64_S8192x64_S8192x128_d1

/-- The negated sines on the first half, zeros elsewhere. -/
def KA (S : FVec Ideal S8192x8 .f32) : FVec Ideal S8192x128 .f32 :=
  concatenate S8192x128 1 [⟨S8192x64, concatenate S8192x64 1 [⟨S8192x8, Host.negf S⟩, ⟨S8192x8, broadcastInDim S8192x8 ![] bcast_S_S8192x8 (constant S_ .f32 0x00000000#32)⟩, ⟨S8192x48, broadcastInDim S8192x48 ![] bcast_S_S8192x48 (constant S_ .f32 0x00000000#32)⟩] concatenates_S8192x8_S8192x8_S8192x48_S8192x64_d1⟩,
    ⟨S8192x64, concatenate S8192x64 1 [⟨S8192x8, Host.negf S⟩, ⟨S8192x8, broadcastInDim S8192x8 ![] bcast_S_S8192x8 (constant S_ .f32 0x00000000#32)⟩, ⟨S8192x48, broadcastInDim S8192x48 ![] bcast_S_S8192x48 (constant S_ .f32 0x00000000#32)⟩] concatenates_S8192x8_S8192x8_S8192x48_S8192x64_d1⟩] concatenates_S8192x64_S8192x64_S8192x128_d1

/-- The sines on the second half, zeros elsewhere. -/
def KB (S : FVec Ideal S8192x8 .f32) : FVec Ideal S8192x128 .f32 :=
  concatenate S8192x128 1 [⟨S8192x64, concatenate S8192x64 1 [⟨S8192x8, broadcastInDim S8192x8 ![] bcast_S_S8192x8 (constant S_ .f32 0x00000000#32)⟩, ⟨S8192x8, S⟩, ⟨S8192x48, broadcastInDim S8192x48 ![] bcast_S_S8192x48 (constant S_ .f32 0x00000000#32)⟩] concatenates_S8192x8_S8192x8_S8192x48_S8192x64_d1⟩,
    ⟨S8192x64, concatenate S8192x64 1 [⟨S8192x8, broadcastInDim S8192x8 ![] bcast_S_S8192x8 (constant S_ .f32 0x00000000#32)⟩, ⟨S8192x8, S⟩, ⟨S8192x48, broadcastInDim S8192x48 ![] bcast_S_S8192x48 (constant S_ .f32 0x00000000#32)⟩] concatenates_S8192x8_S8192x8_S8192x48_S8192x64_d1⟩] concatenates_S8192x64_S8192x64_S8192x128_d1

variable (C S : FVec Ideal S8192x8 .f32) (s : Fin 8192) (l : Fin 128)

/-- The cosine table on the first eight columns of a half head. -/
theorem kc_lo (h : l.val % 64 < 8) : KC C (ix2 s l) = C (ix2 s ⟨l.val % 64, h⟩) := by
  rcases lt_or_ge l.val 64 with g | g
  · pointwise [KC]
    rw [dif_pos g, dif_pos (by omega)]
    blk_ext
  · pointwise [KC]
    rw [dif_neg (by omega), dif_pos (by omega)]
    blk_ext

/-- The cosine table on the next eight columns. -/
theorem kc_mid (h0 : ¬ l.val % 64 < 8) (h : l.val % 64 - 8 < 8) : KC C (ix2 s l) = C (ix2 s ⟨l.val % 64 - 8, h⟩) := by
  rcases lt_or_ge l.val 64 with g | g
  · pointwise [KC]
    rw [dif_pos g, dif_neg (by omega), dif_pos (by omega)]
    blk_ext
  · pointwise [KC]
    rw [dif_neg (by omega), dif_neg (by omega), dif_pos (by omega)]
    blk_ext

/-- The cosine table is one on the columns that do not turn. -/
theorem kc_hi (h0 : ¬ l.val % 64 < 8) (h : ¬ l.val % 64 - 8 < 8) : KC C (ix2 s l) = 1 := by
  rcases lt_or_ge l.val 64 with g | g
  · pointwise [KC]
    simp [g, show ¬ l.val < 8 by omega, show ¬ l.val - 8 < 8 by omega]
  · pointwise [KC]
    simp [show ¬ l.val < 64 by omega, show ¬ l.val - 64 < 8 by omega, show ¬ l.val - 64 - 8 < 8 by omega]

/-- The first sine table on the first eight columns: the sine with a minus. -/
theorem ka_lo (h : l.val % 64 < 8) : KA S (ix2 s l) = - S (ix2 s ⟨l.val % 64, h⟩) := by
  rcases lt_or_ge l.val 64 with g | g
  · pointwise [KA]
    rw [dif_pos g, dif_pos (by omega)]
    refine congrArg (fun x : EReal => -x) ?_
    blk_ext
  · pointwise [KA]
    rw [dif_neg (by omega), dif_pos (by omega)]
    refine congrArg (fun x : EReal => -x) ?_
    blk_ext

/-- The first sine table is zero elsewhere. -/
theorem ka_no (h0 : ¬ l.val % 64 < 8) : KA S (ix2 s l) = 0 := by
  rcases lt_or_ge l.val 64 with g | g
  · pointwise [KA]
    simp [g, show ¬ l.val < 8 by omega]
  · pointwise [KA]
    simp [show ¬ l.val < 64 by omega, show ¬ l.val - 64 < 8 by omega]

/-- The second sine table on the second eight columns: the sine. -/
theorem kb_mid (h0 : ¬ l.val % 64 < 8) (h : l.val % 64 - 8 < 8) : KB S (ix2 s l) = S (ix2 s ⟨l.val % 64 - 8, h⟩) := by
  rcases lt_or_ge l.val 64 with g | g
  · pointwise [KB]
    rw [dif_pos g, dif_neg (by omega), dif_pos (by omega)]
    blk_ext
  · pointwise [KB]
    rw [dif_neg (by omega), dif_neg (by omega), dif_pos (by omega)]
    blk_ext

/-- The second sine table is zero on the first eight columns. -/
theorem kb_lo (h : l.val % 64 < 8) : KB S (ix2 s l) = 0 := by
  rcases lt_or_ge l.val 64 with g | g
  · pointwise [KB]
    simp [g, show l.val < 8 by omega]
  · pointwise [KB]
    simp [show ¬ l.val < 64 by omega, show l.val - 64 < 8 by omega]

/-- The second sine table is zero on the columns that do not turn. -/
theorem kb_hi (h0 : ¬ l.val % 64 < 8) (h : ¬ l.val % 64 - 8 < 8) : KB S (ix2 s l) = 0 := by
  rcases lt_or_ge l.val 64 with g | g
  · pointwise [KB]
    simp [g, show ¬ l.val < 8 by omega, show ¬ l.val - 8 < 8 by omega]
  · pointwise [KB]
    simp [show ¬ l.val < 64 by omega, show ¬ l.val - 64 < 8 by omega, show ¬ l.val - 64 - 8 < 8 by omega]

end Cert.Vals.Rope

end
-- ==== Proof.Rope.Tile.lean ====
module

public import proofs.«01_k».proof.Proof.Gen.RopeIdeal.Value
public import proofs.«01_k».proof.Defs
public import proofs.«01_k».proof.Proof.Gen.RopeReferenceIdeal.Run
public import proofs.«01_k».proof.Proof.Rope.Ref
public import proofs.«01_k».proof.Proof.Rope.Tables
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Rope

open Cert.RopeIdeal Cert.RopeIdeal.Gen

variable (x v1 v3 v5 : FVec Ideal S512x128 .f32) (T : FVec Ideal Cert.RopeReferenceIdeal.S2x8192x4x2x64 .f32) (C S : FVec Ideal S8192x8 .f32) (r : Fin 512) (b : Fin 2) (s : Fin 8192) (p : Fin 4)

/-- A row of 128 channels times the tables, with its two rotations, is the rotated row of a head's two maps. -/
theorem turn (hx : ∀ (e : Fin 2) (d : Fin 64), T (ix5 b s p e d) = x (ix2 r ⟨e.val * 64 + d.val, by omega⟩)) (h1 : ∀ l, v1 (ix2 r l) = KC C (ix2 s l)) (h3 : ∀ l, v3 (ix2 r l) = KA S (ix2 s l)) (h5 : ∀ l, v5 (ix2 r l) = KB S (ix2 s l))
    (l u w : Fin 128) (hu : u.val = (l.val + 8) % 128) (hw : w.val = (l.val + 120) % 128) :
    (x (ix2 r l) * v1 (ix2 r l) + x (ix2 r u) * v3 (ix2 r l) + x (ix2 r w) * v5 (ix2 r l) : EReal) = rot T C S (ix5 b s p ⟨l.val / 64, by omega⟩ ⟨l.val % 64, by omega⟩) := by
  rw [h1, h3, h5]
  have ql : (⟨l.val / 64 * 64 + l.val % 64, by omega⟩ : Fin 128) = l := Fin.ext (by simp only; omega)
  by_cases c0 : l.val % 64 < 8
  · have qu : (⟨l.val / 64 * 64 + (8 + l.val % 64), by omega⟩ : Fin 128) = u := Fin.ext (by simp only; omega)
    rw [kc_lo C s l c0, ka_lo S s l c0, kb_lo S s l c0, rot_lo _ _ _ _ _ _ _ _ c0, hx, hx, mul_zero, add_zero, mul_neg, sub_eq_add_neg]
    simp only [ql, qu]
  · by_cases c1 : l.val % 64 - 8 < 8
    · have qw : (⟨l.val / 64 * 64 + (l.val % 64 - 8), by omega⟩ : Fin 128) = w := Fin.ext (by simp only; omega)
      rw [kc_mid C s l c0 c1, ka_no S s l c0, kb_mid S s l c0 c1, rot_mid T C S b s p ⟨l.val / 64, by omega⟩ ⟨l.val % 64, by omega⟩ c0 c1, hx, hx, mul_zero, add_zero]
      simp only [ql, qw]
    · rw [kc_hi C s l c0 c1, ka_no S s l c0, kb_hi S s l c0 c1, rot_hi T C S b s p ⟨l.val / 64, by omega⟩ ⟨l.val % 64, by omega⟩ c0 c1, hx, mul_zero, mul_zero, add_zero, add_zero, mul_one]
      simp only [ql]

variable (hx : ∀ (e : Fin 2) (d : Fin 64), T (ix5 b s p e d) = x (ix2 r ⟨e.val * 64 + d.val, by omega⟩)) (h1 : ∀ l, v1 (ix2 r l) = KC C (ix2 s l)) (h3 : ∀ l, v3 (ix2 r l) = KA S (ix2 s l)) (h5 : ∀ l, v5 (ix2 r l) = KB S (ix2 s l)) (l : Fin 128)

include hx h1 h3 h5

/-- The stored keys of head 0 are the turned ones. -/
theorem piece_k0 : k0_pay14 v1 v3 v5 x (ix2 r l) = rot T C S (ix5 b s p ⟨l.val / 64, by omega⟩ ⟨l.val % 64, by omega⟩) := by
  pointwise [k0_pay14]
  exact turn x v1 v3 v5 T C S r b s p hx h1 h3 h5 l _ _ (by simp only; omega) (by simp only; omega)

/-- The stored keys of head 1 are the turned ones. -/
theorem piece_k1 : k0_pay1 v5 (k0_pay15 v1 v3 x) (k0_pay16 x) (ix2 r l) = rot T C S (ix5 b s p ⟨l.val / 64, by omega⟩ ⟨l.val % 64, by omega⟩) := by
  pointwise [k0_pay1, k0_pay15, k0_pay16]
  exact turn x v1 v3 v5 T C S r b s p hx h1 h3 h5 l _ _ (by simp only; omega) (by simp only; omega)

/-- The stored keys of head 2 are the turned ones. -/
theorem piece_k2 : k0_pay2 v1 v3 v5 x (ix2 r l) = rot T C S (ix5 b s p ⟨l.val / 64, by omega⟩ ⟨l.val % 64, by omega⟩) := by
  pointwise [k0_pay2]
  exact turn x v1 v3 v5 T C S r b s p hx h1 h3 h5 l _ _ (by simp only; omega) (by simp only; omega)

/-- The stored keys of head 3 are the turned ones. -/
theorem piece_k3 : k0_pay3 v1 v3 v5 x (ix2 r l) = rot T C S (ix5 b s p ⟨l.val / 64, by omega⟩ ⟨l.val % 64, by omega⟩) := by
  pointwise [k0_pay3]
  exact turn x v1 v3 v5 T C S r b s p hx h1 h3 h5 l _ _ (by simp only; omega) (by simp only; omega)

/-- The stored queries of head 0 are the turned ones, scaled. -/
theorem piece_q0 : (k0_pay8 (F := Ideal) v1 v3 v5 x (ix2 r l) : EReal) = (rot T C S (ix5 b s p ⟨l.val / 64, by omega⟩ ⟨l.val % 64, by omega⟩) * (constant (F := Ideal) S_ .f32 0x3E000000#32 ix0) : EReal) := by
  pointwise [k0_pay8, k0_pay5, k0_pay6, k0_pay7]
  exact congrArg (fun z : EReal => z * _) (turn x v1 v3 v5 T C S r b s p hx h1 h3 h5 l _ _ (by simp only; omega) (by simp only; omega))

/-- The stored queries of head 1 are the turned ones, scaled. -/
theorem piece_q1 : (k0_pay9 (F := Ideal) v1 v3 v5 x (ix2 r l) : EReal) = (rot T C S (ix5 b s p ⟨l.val / 64, by omega⟩ ⟨l.val % 64, by omega⟩) * (constant (F := Ideal) S_ .f32 0x3E000000#32 ix0) : EReal) := by
  pointwise [k0_pay9, k0_pay5, k0_pay6, k0_pay7]
  exact congrArg (fun z : EReal => z * _) (turn x v1 v3 v5 T C S r b s p hx h1 h3 h5 l _ _ (by simp only; omega) (by simp only; omega))

/-- The stored queries of head 2 are the turned ones, scaled. -/
theorem piece_q2 : (k0_pay12 v5 x (k0_pay10 v1 x) (k0_pay11 v3 x) (ix2 r l) : EReal) = (rot T C S (ix5 b s p ⟨l.val / 64, by omega⟩ ⟨l.val % 64, by omega⟩) * (constant (F := Ideal) S_ .f32 0x3E000000#32 ix0) : EReal) := by
  pointwise [k0_pay12, k0_pay10, k0_pay11, k0_pay5, k0_pay6]
  exact congrArg (fun z : EReal => z * _) (turn x v1 v3 v5 T C S r b s p hx h1 h3 h5 l _ _ (by simp only; omega) (by simp only; omega))

/-- The stored queries of head 3 are the turned ones, scaled. -/
theorem piece_q3 : (k0_pay13 v1 v3 v5 x (ix2 r l) : EReal) = (rot T C S (ix5 b s p ⟨l.val / 64, by omega⟩ ⟨l.val % 64, by omega⟩) * (constant (F := Ideal) S_ .f32 0x3E000000#32 ix0) : EReal) := by
  pointwise [k0_pay13]
  exact congrArg (fun z : EReal => z * _) (turn x v1 v3 v5 T C S r b s p hx h1 h3 h5 l _ _ (by simp only; omega) (by simp only; omega))

end Cert.Vals.Rope

end
-- ==== Proof.Rope.Claim.lean ====
module

public import proofs.«01_k».proof.Proof.Gen.RopeIdeal.Value
public import proofs.«01_k».proof.Defs
public import proofs.«01_k».proof.Proof.Gen.RopeReferenceIdeal.Run
public import proofs.«01_k».proof.Proof.Rope.Ref
public import proofs.«01_k».proof.Proof.Rope.Tables
public import proofs.«01_k».proof.Proof.Rope.Tile
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Rope

open Cert.RopeIdeal Cert.RopeIdeal.Gen

/-- The block each step reads and writes, per window. -/
theorem idx : ∀ t : Fin cfg0.N, win0_0.index t = ![t.val, 4] ∧ win0_1.index t = ![t.val, 5] ∧ win0_2.index t = ![t.val, 6] ∧ win0_3.index t = ![t.val % 16, 0]
    ∧ win0_4.index t = ![t.val % 16, 0] ∧ win0_5.index t = ![t.val % 16, 0] ∧ win0_6.index t = ![t.val, 0] :=
  (by decide +kernel : ∀ t : Fin grid0.N, _)

variable (m : (ℓ : Loc nD τ sig) → Buf (Elt Ideal) ℓ) (c : Dev nD) (t : Fin cfg0.N) (r : Fin 512) (R : Fin 16384)

/-- A row of the query block. -/
theorem blkQ (hR : R.val = 512 * t.val + r.val) (d : Fin 512) : (X0_0 m c t : Vec Ideal S512x512 .f32) (ix2 r d) = (m ((c : Thread nD τ).loc main_arg0) : Vec Ideal S16384x5760 .f32) (ix2 R ⟨2048 + d.val, by omega⟩) := by
  unfold X0_0 Pipeline.Window.fill
  rw [dif_pos (moved0_0 t _)]
  blk_ext [iblk, V, idx t]

/-- A row of the key block. -/
theorem blkK (hR : R.val = 512 * t.val + r.val) (d : Fin 512) : (X0_1 m c t : Vec Ideal S512x512 .f32) (ix2 r d) = (m ((c : Thread nD τ).loc main_arg0) : Vec Ideal S16384x5760 .f32) (ix2 R ⟨2560 + d.val, by omega⟩) := by
  unfold X0_1 Pipeline.Window.fill
  rw [dif_pos (moved0_1 t _)]
  blk_ext [iblk, V, idx t]

/-- A row of the value block. -/
theorem blkV (hR : R.val = 512 * t.val + r.val) (d : Fin 512) : (X0_2 m c t : Vec Ideal S512x512 .f32) (ix2 r d) = (m ((c : Thread nD τ).loc main_arg0) : Vec Ideal S16384x5760 .f32) (ix2 R ⟨3072 + d.val, by omega⟩) := by
  unfold X0_2 Pipeline.Window.fill
  rw [dif_pos (moved0_2 t _)]
  blk_ext [iblk, V, idx t]

/-- The kernel's cosine table. -/
theorem host_c : V m c main_v26 = KC (Host.cos ang) := by
  show StableHlo.after hostOps0 (fun b => m (c, b)) main_v26 = _
  unfold KC ang
  after_results <;> rfl

/-- The kernel's negated sine table. -/
theorem host_a : V m c main_v27 = KA (Host.sin ang) := by
  show StableHlo.after hostOps0 (fun b => m (c, b)) main_v27 = _
  unfold KA ang
  after_results <;> rfl

/-- The kernel's sine table. -/
theorem host_b : V m c main_v28 = KB (Host.sin ang) := by
  show StableHlo.after hostOps0 (fun b => m (c, b)) main_v28 = _
  unfold KB ang
  after_results <;> rfl

/-- The cosine block at a point. -/
theorem blkC (s : Fin 8192) (hs : s.val = 512 * (t.val % 16) + r.val) (l : Fin 128) : (iblk m c 3 t : Vec Ideal S512x128 .f32) (ix2 r l) = KC (Host.cos ang) (ix2 s l) := by
  show V m c main_v26 ((win0_3.blk t).view.emb (ix2 r l : S512x128.Idx)) = _
  rw [host_c]
  refine congrArg (KC _) ?_
  blk_ext [idx t]

/-- The negated sine block at a point. -/
theorem blkA (s : Fin 8192) (hs : s.val = 512 * (t.val % 16) + r.val) (l : Fin 128) : (iblk m c 4 t : Vec Ideal S512x128 .f32) (ix2 r l) = KA (Host.sin ang) (ix2 s l) := by
  show V m c main_v27 ((win0_4.blk t).view.emb (ix2 r l : S512x128.Idx)) = _
  rw [host_a]
  refine congrArg (KA _) ?_
  blk_ext [idx t]

/-- The sine block at a point. -/
theorem blkB (s : Fin 8192) (hs : s.val = 512 * (t.val % 16) + r.val) (l : Fin 128) : (iblk m c 5 t : Vec Ideal S512x128 .f32) (ix2 r l) = KB (Host.sin ang) (ix2 s l) := by
  show V m c main_v28 ((win0_5.blk t).view.emb (ix2 r l : S512x128.Idx)) = _
  rw [host_b]
  refine congrArg (KB _) ?_
  blk_ext [idx t]

/-- A query of a head, a map and a channel lies in the query block. -/
theorem rowQ (hR : R.val = 512 * t.val + r.val) (p : Fin 4) (e : Fin 2) (d : Fin 64) : sq (m ((c : Thread nD τ).loc main_arg0)) (ix5 (⟨R.val / 8192, by omega⟩ : Fin 2) ⟨R.val % 8192, by omega⟩ p e d) = (X0_0 m c t : Vec Ideal S512x512 .f32) (ix2 r ⟨128 * p.val + (e.val * 64 + d.val), by omega⟩) := by
  rw [sq_at, blkQ m c t r R hR]
  blk_ext

/-- A key of a head, a map and a channel lies in the key block. -/
theorem rowK (hR : R.val = 512 * t.val + r.val) (p : Fin 4) (e : Fin 2) (d : Fin 64) : sk (m ((c : Thread nD τ).loc main_arg0)) (ix5 (⟨R.val / 8192, by omega⟩ : Fin 2) ⟨R.val % 8192, by omega⟩ p e d) = (X0_1 m c t : Vec Ideal S512x512 .f32) (ix2 r ⟨128 * p.val + (e.val * 64 + d.val), by omega⟩) := by
  rw [sk_at, blkK m c t r R hR]
  blk_ext

/-- The cosine block, under a cast to its own shape. -/
theorem castC (s : Fin 8192) (hs : s.val = 512 * (t.val % 16) + r.val) (l : Fin 128) : k0_pay5 (F := Ideal) (iblk m c 3 t) (ix2 r l) = KC (Host.cos ang) (ix2 s l) := by
  pointwise [k0_pay5]
  exact blkC m c t r s hs l

/-- The negated sine block, under a cast to its own shape. -/
theorem castA (s : Fin 8192) (hs : s.val = 512 * (t.val % 16) + r.val) (l : Fin 128) : k0_pay6 (F := Ideal) (iblk m c 4 t) (ix2 r l) = KA (Host.sin ang) (ix2 s l) := by
  pointwise [k0_pay6]
  exact blkA m c t r s hs l

/-- The sine block, under a cast to its own shape. -/
theorem castB (s : Fin 8192) (hs : s.val = 512 * (t.val % 16) + r.val) (l : Fin 128) : k0_pay7 (F := Ideal) (iblk m c 5 t) (ix2 r l) = KB (Host.sin ang) (ix2 s l) := by
  pointwise [k0_pay7]
  exact blkB m c t r s hs l

/-- Two coordinates fix an index. -/
theorem ix2_eq {n k : ℕ} {a : Fin n} {b : Fin k} (i : (⟨2, ![n, k]⟩ : Shape).Idx) (h0 : a.val = (i 0).val) (h1 : b.val = (i 1).val) : ix2 a b = i := by
  funext x
  fin_cases x
  · exact Fin.ext h0
  · exact Fin.ext h1

set_option maxHeartbeats 4000000 in
/-- The whole result array is the reference's. -/
theorem final : (dats m 0 c).arrAt 6 (cfgs 0).N = REF (rot (sq (m ((c : Thread nD τ).loc main_arg0))) (Host.cos ang) (Host.sin ang)) (rot (sk (m ((c : Thread nD τ).loc main_arg0))) (Host.cos ang) (Host.sin ang)) (m ((c : Thread nD τ).loc main_arg0)) := by
  refine (dats m 0 c).arrAt_eq_of_covers 6 _ (by decide +kernel) fun t _ y => ?_
  blk_simp
  rw [after0_6]
  unfold outsAt0
  frame_out
  canon_tiles x h using (View.cover_of_tiledBy _ ![512, 128] (by sl_kernel_rfl) y)
  · have ht : t.val < 32 := t.isLt
    obtain ⟨r, d, rfl⟩ : ∃ (r : Fin 512) (d : Fin 512), x = (ix2 r d : S512x512.Idx) := ⟨x 0, x 1, by funext a; fin_cases a <;> rfl⟩
    have q0 : (y 0).val = r.val := h0
    have q1 : (y 1).val = 1024 + d.val := h1
    have e : (win0_6.blk t).view.emb y = ix2 (⟨512 * t.val + r.val, by omega⟩ : Fin 16384) (⟨1024 + d.val, by omega⟩ : Fin 1536) := by
      blk_ext [idx t]
    refine Eq.trans ?_ (congrArg _ e.symm)
    rw [ref_v]
    pointwise [k0_pay4]
    exact blkV m c t r _ rfl d
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 896 + d.val := h1
    have e : (win0_6.blk t).view.emb y = ix2 (⟨512 * t.val + r.val, by omega⟩ : Fin 16384) (⟨512 + 128 * (3 : Fin 4).val + d.val, by omega⟩ : Fin 1536) := by
      refine Eq.trans (b := ix2 (⟨512 * t.val + r.val, by omega⟩ : Fin 16384) (⟨896 + d.val, by omega⟩ : Fin 1536)) ?_ rfl
      blk_ext [idx t]
    refine Eq.trans ?_ (congrArg _ e.symm)
    rw [ref_k]
    refine piece_k3 _ _ _ _ _ _ _ r _ _ _ ?_ (fun l => castC m c t r _ (by simp only; omega) l) (fun l => castA m c t r _ (by simp only; omega) l) (fun l => castB m c t r _ (by simp only; omega) l) d
    intro e d
    refine (rowK m c t r _ rfl 3 e d).trans ?_
    refine congrArg (X0_1 m c t : Vec Ideal S512x512 .f32) ?_
    refine ix2_eq _ ?_ ?_
    · exact (Nat.zero_add _).symm.trans (congrArg (0 + ·) (Nat.one_mul r.val).symm)
    · exact congrArg (384 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 768 + d.val := h1
    have e : (win0_6.blk t).view.emb y = ix2 (⟨512 * t.val + r.val, by omega⟩ : Fin 16384) (⟨512 + 128 * (2 : Fin 4).val + d.val, by omega⟩ : Fin 1536) := by
      refine Eq.trans (b := ix2 (⟨512 * t.val + r.val, by omega⟩ : Fin 16384) (⟨768 + d.val, by omega⟩ : Fin 1536)) ?_ rfl
      blk_ext [idx t]
    refine Eq.trans ?_ (congrArg _ e.symm)
    rw [ref_k]
    refine piece_k2 _ _ _ _ _ _ _ r _ _ _ ?_ (fun l => castC m c t r _ (by simp only; omega) l) (fun l => castA m c t r _ (by simp only; omega) l) (fun l => castB m c t r _ (by simp only; omega) l) d
    intro e d
    refine (rowK m c t r _ rfl 2 e d).trans ?_
    refine congrArg (X0_1 m c t : Vec Ideal S512x512 .f32) ?_
    refine ix2_eq _ ?_ ?_
    · exact (Nat.zero_add _).symm.trans (congrArg (0 + ·) (Nat.one_mul r.val).symm)
    · exact congrArg (256 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 640 + d.val := h1
    have e : (win0_6.blk t).view.emb y = ix2 (⟨512 * t.val + r.val, by omega⟩ : Fin 16384) (⟨512 + 128 * (1 : Fin 4).val + d.val, by omega⟩ : Fin 1536) := by
      refine Eq.trans (b := ix2 (⟨512 * t.val + r.val, by omega⟩ : Fin 16384) (⟨640 + d.val, by omega⟩ : Fin 1536)) ?_ rfl
      blk_ext [idx t]
    refine Eq.trans ?_ (congrArg _ e.symm)
    rw [ref_k]
    refine piece_k1 _ _ _ _ _ _ _ r _ _ _ ?_ (fun l => castC m c t r _ (by simp only; omega) l) (fun l => castA m c t r _ (by simp only; omega) l) (fun l => castB m c t r _ (by simp only; omega) l) d
    intro e d
    refine (rowK m c t r _ rfl 1 e d).trans ?_
    refine congrArg (X0_1 m c t : Vec Ideal S512x512 .f32) ?_
    refine ix2_eq _ ?_ ?_
    · exact (Nat.zero_add _).symm.trans (congrArg (0 + ·) (Nat.one_mul r.val).symm)
    · exact congrArg (128 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 512 + d.val := h1
    have e : (win0_6.blk t).view.emb y = ix2 (⟨512 * t.val + r.val, by omega⟩ : Fin 16384) (⟨512 + 128 * (0 : Fin 4).val + d.val, by omega⟩ : Fin 1536) := by
      refine Eq.trans (b := ix2 (⟨512 * t.val + r.val, by omega⟩ : Fin 16384) (⟨512 + d.val, by omega⟩ : Fin 1536)) ?_ rfl
      blk_ext [idx t]
    refine Eq.trans ?_ (congrArg _ e.symm)
    rw [ref_k]
    refine piece_k0 _ _ _ _ _ _ _ r _ _ _ ?_ (fun l => castC m c t r _ (by simp only; omega) l) (fun l => castA m c t r _ (by simp only; omega) l) (fun l => castB m c t r _ (by simp only; omega) l) d
    intro e d
    refine (rowK m c t r _ rfl 0 e d).trans ?_
    refine congrArg (X0_1 m c t : Vec Ideal S512x512 .f32) ?_
    refine ix2_eq _ ?_ ?_
    · exact (Nat.zero_add _).symm.trans (congrArg (0 + ·) (Nat.one_mul r.val).symm)
    · exact congrArg (0 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 384 + d.val := h1
    have e : (win0_6.blk t).view.emb y = ix2 (⟨512 * t.val + r.val, by omega⟩ : Fin 16384) (⟨128 * (3 : Fin 4).val + d.val, by omega⟩ : Fin 1536) := by
      refine Eq.trans (b := ix2 (⟨512 * t.val + r.val, by omega⟩ : Fin 16384) (⟨384 + d.val, by omega⟩ : Fin 1536)) ?_ rfl
      blk_ext [idx t]
    refine Eq.trans ?_ (congrArg _ e.symm)
    rw [ref_q]
    refine piece_q3 _ _ _ _ _ _ _ r _ _ _ ?_ (fun l => castC m c t r _ (by simp only; omega) l) (fun l => castA m c t r _ (by simp only; omega) l) (fun l => castB m c t r _ (by simp only; omega) l) d
    intro e d
    refine (rowQ m c t r _ rfl 3 e d).trans ?_
    refine congrArg (X0_0 m c t : Vec Ideal S512x512 .f32) ?_
    refine ix2_eq _ ?_ ?_
    · exact (Nat.zero_add _).symm.trans (congrArg (0 + ·) (Nat.one_mul r.val).symm)
    · exact congrArg (384 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 256 + d.val := h1
    have e : (win0_6.blk t).view.emb y = ix2 (⟨512 * t.val + r.val, by omega⟩ : Fin 16384) (⟨128 * (2 : Fin 4).val + d.val, by omega⟩ : Fin 1536) := by
      refine Eq.trans (b := ix2 (⟨512 * t.val + r.val, by omega⟩ : Fin 16384) (⟨256 + d.val, by omega⟩ : Fin 1536)) ?_ rfl
      blk_ext [idx t]
    refine Eq.trans ?_ (congrArg _ e.symm)
    rw [ref_q]
    refine piece_q2 _ _ _ _ _ _ _ r _ _ _ ?_ (fun l => blkC m c t r _ (by simp only; omega) l) (fun l => blkA m c t r _ (by simp only; omega) l) (fun l => castB m c t r _ (by simp only; omega) l) d
    intro e d
    refine (rowQ m c t r _ rfl 2 e d).trans ?_
    refine congrArg (X0_0 m c t : Vec Ideal S512x512 .f32) ?_
    refine ix2_eq _ ?_ ?_
    · exact (Nat.zero_add _).symm.trans (congrArg (0 + ·) (Nat.one_mul r.val).symm)
    · exact congrArg (256 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = 128 + d.val := h1
    have e : (win0_6.blk t).view.emb y = ix2 (⟨512 * t.val + r.val, by omega⟩ : Fin 16384) (⟨128 * (1 : Fin 4).val + d.val, by omega⟩ : Fin 1536) := by
      refine Eq.trans (b := ix2 (⟨512 * t.val + r.val, by omega⟩ : Fin 16384) (⟨128 + d.val, by omega⟩ : Fin 1536)) ?_ rfl
      blk_ext [idx t]
    refine Eq.trans ?_ (congrArg _ e.symm)
    rw [ref_q]
    refine piece_q1 _ _ _ _ _ _ _ r _ _ _ ?_ (fun l => blkC m c t r _ (by simp only; omega) l) (fun l => blkA m c t r _ (by simp only; omega) l) (fun l => blkB m c t r _ (by simp only; omega) l) d
    intro e d
    refine (rowQ m c t r _ rfl 1 e d).trans ?_
    refine congrArg (X0_0 m c t : Vec Ideal S512x512 .f32) ?_
    refine ix2_eq _ ?_ ?_
    · exact (Nat.zero_add _).symm.trans (congrArg (0 + ·) (Nat.one_mul r.val).symm)
    · exact congrArg (128 + ·) (Nat.one_mul (e.val * 64 + d.val)).symm
  · have ht : t.val < 32 := t.isLt
    obtain ⟨r, d, rfl⟩ : ∃ (r : Fin 512) (d : Fin 128), x = (ix2 r d : S512x128.Idx) := ⟨x 0, x 1, by funext a; fin_cases a <;> rfl⟩
    have q0 : (y 0).val = r.val := h0
    have q1 : (y 1).val = d.val := h1
    have e : (win0_6.blk t).view.emb y = ix2 (⟨512 * t.val + r.val, by omega⟩ : Fin 16384) (⟨128 * (0 : Fin 4).val + d.val, by omega⟩ : Fin 1536) := by
      refine Eq.trans (b := ix2 (⟨512 * t.val + r.val, by omega⟩ : Fin 16384) (⟨0 + d.val, by omega⟩ : Fin 1536)) ?_ rfl
      blk_ext [idx t]
    refine Eq.trans ?_ (congrArg _ e.symm)
    rw [ref_q]
    refine piece_q0 _ _ _ _ _ _ _ r _ _ _ ?_ (fun l => blkC m c t r _ (by simp only; omega) l) (fun l => blkA m c t r _ (by simp only; omega) l) (fun l => blkB m c t r _ (by simp only; omega) l) d
    intro e d
    refine (rowQ m c t r _ rfl 0 e d).trans ?_
    refine congrArg (X0_0 m c t : Vec Ideal S512x512 .f32) ?_
    refine ix2_eq _ ?_ ?_
    · exact (Nat.zero_add _).symm.trans (congrArg (0 + ·) (Nat.one_mul r.val).symm)
    · exact congrArg (0 + ·) (Nat.one_mul (e.val * 64 + d.val)).symm

/-- The rotary call computes the reference's scaled and rotated queries, rotated keys and values. -/
theorem algebraic : Cert.algebraic_RopeIdeal_RopeReferenceIdeal := by
  pair_intro
  · run_from Cert.RopeIdeal.Value.run_blocks m g
  · run_from Cert.RopeReferenceIdeal.Value.run m' g'
    have e0 := hagree c
    rw [res_eq, e0]
    exact (final m c).symm

end Cert.Vals.Rope

end
-- ==== Proof.Merge.Ref.lean ====
module

public import proofs.«01_k».proof.Proof.Gen.MergeReferenceIdeal.Run
public import Idealize.ShloMosaic.Lib.Pointwise

@[expose] public section

set_option maxRecDepth 16384

noncomputable section

open Idealize.ShloMosaic Idealize.ShloMosaic.TcCoe Idealize.SL.Sem

namespace Cert.Vals.Merge

open Cert.MergeReferenceIdeal Cert.MergeReferenceIdeal.Gen

/-- The two scans' sum, by row, head and channel. -/
def hs (A B : FVec Ideal S16384x512 .f32) : FVec Ideal S16384x4x128 .f32 :=
  shapeCast _ (addf A B) shapeCasts_S16384x512_S16384x4x128

/-- The mean over a head's channels. -/
def mu (H : FVec Ideal S16384x4x128 .f32) : FVec Ideal S16384x4x1 .f32 :=
  Host.divf (broadcastInDim S16384x4x1 ![0, 1] bcast_S16384x4_S16384x4x1_0_1 (Host.reduceAdd H (constant S_ .f32 0x00000000#32) reducesTo_S16384x4x128_S16384x4_d2 h_S_)) (broadcastInDim S16384x4x1 ![] bcast_S_S16384x4x1 (constant S_ .f32 0x43000000#32))

/-- A head less its mean. -/
def ce (H : FVec Ideal S16384x4x128 .f32) : FVec Ideal S16384x4x128 .f32 :=
  subf H (broadcastInDim S16384x4x128 ![0, 1, 2] bcast_S16384x4x1_S16384x4x128_0_1_2 (mu H))

/-- A centred head over the root of its mean square. -/
def nm (C : FVec Ideal S16384x4x128 .f32) : FVec Ideal S16384x4x128 .f32 :=
  mulf C (broadcastInDim S16384x4x128 ![0, 1, 2] bcast_S16384x4x1_S16384x4x128_0_1_2 (Host.rsqrt (addf (mu (mulf C C)) (broadcastInDim S16384x4x1 ![] bcast_S_S16384x4x1 (constant S_ .f32 0x3727C5AC#32)))))

/-- The mLSTM's result: the normed heads, scaled and gated. -/
def ym (N : FVec Ideal S16384x4x128 .f32) (G : FVec Ideal S1x512 .f32) (P : FVec Ideal S16384x5760 .f32) : FVec Ideal S16384x512 .f32 :=
  mulf (mulf (shapeCast _ N shapeCasts_S16384x4x128_S16384x512) (broadcastInDim S16384x512 ![0, 1] bcast_S1x512_S16384x512_0_1 (broadcastInDim S1x512 ![1] bcast_S512_S1x512_1 (shapeCast _ G shapeCasts_S1x512_S512))))
    (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 5120] P slices_S16384x5760_S16384x512_0_5120)))))

/-- The gates of the two branches. -/
def gt (P : FVec Ideal S16384x5760 .f32) : FVec Ideal S16384x2x1024 .f32 :=
  Host.divf (broadcastInDim S16384x2x1024 ![] bcast_S_S16384x2x1024 (constant S_ .f32 0x3F800000#32)) (addf (broadcastInDim S16384x2x1024 ![] bcast_S_S16384x2x1024 (constant S_ .f32 0x3F800000#32)) (Host.exp (Host.negf (shapeCast _ (extractStridedSlice S16384x2048 ![0, 0] P slices_S16384x5760_S16384x2048_0_0) shapeCasts_S16384x2048_S16384x2x1024))))

/-- The gated sum of the branches. -/
def mg (P : FVec Ideal S16384x5760 .f32) (A Y : FVec Ideal S16384x512 .f32) (Wa Wm : FVec Ideal S1x512x1024 .f32) : FVec Ideal S16384x1024 .f32 :=
  addf (mulf (shapeCast _ (extractStridedSlice S16384x1x1024 ![0, 0, 0] (gt P) slices_S16384x2x1024_S16384x1x1024_0_0_0) shapeCasts_S16384x1x1024_S16384x1024) (Host.dotGeneral dot_S16384x512_S512x1024_S16384x1024_1_0_0_1_n_n none A (shapeCast _ Wa shapeCasts_S1x512x1024_S512x1024)))
    (mulf (shapeCast _ (extractStridedSlice S16384x1x1024 ![0, 1, 0] (gt P) slices_S16384x2x1024_S16384x1x1024_0_1_0) shapeCasts_S16384x1x1024_S16384x1024) (Host.dotGeneral dot_S16384x512_S512x1024_S16384x1024_1_0_0_1_n_n none Y (shapeCast _ Wm shapeCasts_S1x512x1024_S512x1024)))

/-- The residual stream plus the output product. -/
def zz (X : FVec Ideal S2x8192x1024 .f32) (M : FVec Ideal S16384x1024 .f32) (Wo : FVec Ideal S1x1024x1024 .f32) : FVec Ideal S16384x1024 .f32 :=
  addf (mulf (broadcastInDim S16384x1024 ![] bcast_S_S16384x1024 (constant S_ .f32 0x3F9837F0#32)) (shapeCast _ X shapeCasts_S2x8192x1024_S16384x1024)) (Host.dotGeneral dot_S16384x1024_S1024x1024_S16384x1024_1_0_0_1_n_n none M (shapeCast _ Wo shapeCasts_S1x1024x1024_S1024x1024))

/-- A row's mean. -/
def mu2 (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- A row less its mean. -/
def ce2 (Z : FVec Ideal S16384x1024 .f32) : FVec Ideal S16384x1024 .f32 :=
  subf Z (broadcastInDim S16384x1024 ![0, 1] bcast_S16384x1_S16384x1024_0_1 (mu2 Z))

/-- A centred row over the root of its mean square. -/
def nm2 (C : FVec Ideal S16384x1024 .f32) : FVec Ideal S16384x1024 .f32 :=
  mulf C (broadcastInDim S16384x1024 ![0, 1] bcast_S16384x1_S16384x1024_0_1 (Host.rsqrt (addf (mu2 (mulf C C)) (broadcastInDim S16384x1 ![] bcast_S_S16384x1 (constant S_ .f32 0x3727C5AC#32)))))

/-- The norm's gain and bias. -/
def gb (N : FVec Ideal S16384x1024 .f32) (G B : FVec Ideal S1x1024 .f32) : FVec Ideal S16384x1024 .f32 :=
  addf (mulf N (broadcastInDim S16384x1024 ![0, 1] bcast_S1x1024_S16384x1024_0_1 (broadcastInDim S1x1024 ![1] bcast_S1024_S1x1024_1 (shapeCast _ G shapeCasts_S1x1024_S1024)))) (broadcastInDim S16384x1024 ![0, 1] bcast_S1x1024_S16384x1024_0_1 (broadcastInDim S1x1024 ![1] bcast_S1024_S1x1024_1 (shapeCast _ B shapeCasts_S1x1024_S1024)))

/-- The reference's result is this chain. -/
theorem res_eq (m : (ℓ : Loc nD τ sig) → Buf (Elt Ideal) ℓ) (c : Dev nD) :
    Value.res_main_v83 m c = gb (nm2 (ce2 (zz (m ((c.tc : Thread nD τ).loc main_arg0)) (mg (m ((c.tc : Thread nD τ).loc main_arg4)) (m ((c.tc : Thread nD τ).loc main_arg1)) (ym (nm (ce (hs (m ((c.tc : Thread nD τ).loc main_arg2)) (m ((c.tc : Thread nD τ).loc main_arg3))))) (m ((c.tc : Thread nD τ).loc main_arg5)) (m ((c.tc : Thread nD τ).loc main_arg4))) (m ((c.tc : Thread nD τ).loc main_arg6)) (m ((c.tc : Thread nD τ).loc main_arg7))) (m ((c.tc : Thread nD τ).loc main_arg8))))) (m ((c.tc : Thread nD τ).loc main_arg9)) (m ((c.tc : Thread nD τ).loc main_arg10)) := by
  unfold Value.res_main_v83 gb nm2 ce2 mu2 zz mg gt ym nm ce mu hs
  rfl

end Cert.Vals.Merge

end
-- ==== Proof.Merge.Tile.lean ====
module

public import proofs.«01_k».proof.Proof.Gen.MergeIdeal.Skeleton
public import proofs.«01_k».proof.Proof.Merge.Ref
public import Idealize.ShloMosaic.Lib.Pointwise

@[expose] public section

set_option maxRecDepth 16384

noncomputable section

open Idealize.ShloMosaic Idealize.ShloMosaic.TcCoe Idealize.SL.Sem

namespace Cert.Vals.Merge

open Cert.MergeIdeal Cert.MergeIdeal.Gen

/-- The first head's norm in the kernel. -/
theorem head0 (v0 v1 : Vec Ideal S256x512 .f32) (A B : FVec Ideal Cert.MergeReferenceIdeal.S16384x512 .f32) (r : Fin 256) (R : Fin 16384)
    (h0 : ∀ d : Fin 512, v0 (ix2 r d) = A (ix2 R d)) (h1 : ∀ d : Fin 512, v1 (ix2 r d) = B (ix2 R d)) (d : Fin 128) :
    k0_pay3 v0 v1 (ix2 r d) = nm (ce (hs A B)) (ix3 R 0 d) := by
  pointwise [k0_pay3, k0_pay2, nm, ce, mu, hs]
  simp only [h0, h1]

/-- The second head's. -/
theorem head1 (v0 v1 : Vec Ideal S256x512 .f32) (A B : FVec Ideal Cert.MergeReferenceIdeal.S16384x512 .f32) (r : Fin 256) (R : Fin 16384)
    (h0 : ∀ d : Fin 512, v0 (ix2 r d) = A (ix2 R d)) (h1 : ∀ d : Fin 512, v1 (ix2 r d) = B (ix2 R d)) (d : Fin 128) :
    k0_pay4 v0 v1 (ix2 r d) = nm (ce (hs A B)) (ix3 R 1 d) := by
  pointwise [k0_pay4, k0_pay2, nm, ce, mu, hs]
  simp only [h0, h1]

/-- The gated heads of a row, in the kernel and in the reference. -/
theorem heads (v0 v1 : Vec Ideal S256x512 .f32) (v72 : Vec Ideal S1x512 .f32) (v76 : Vec Ideal S256x512 .f32) (A B : FVec Ideal Cert.MergeReferenceIdeal.S16384x512 .f32)
    (G : FVec Ideal Cert.MergeReferenceIdeal.S1x512 .f32) (P : FVec Ideal Cert.MergeReferenceIdeal.S16384x5760 .f32) (r : Fin 256) (R : Fin 16384)
    (h0 : ∀ d : Fin 512, v0 (ix2 r d) = A (ix2 R d)) (h1 : ∀ d : Fin 512, v1 (ix2 r d) = B (ix2 R d)) (hg : ∀ d : Fin 512, v72 (ix2 0 d) = G (ix2 0 d))
    (hp : ∀ d : Fin 512, v76 (ix2 r d) = P (ix2 R ⟨5120 + d.val, by omega⟩)) (D : Fin 512) :
    k0_pay8 (k0_pay2 v0 v1) (k0_pay3 v0 v1) (k0_pay4 v0 v1) (k0_pay5 v0 v1) (k0_pay6 v0 v1) v72 v76 (ix2 r D) = ym (nm (ce (hs A B))) G P (ix2 R D) := by
  have hD := D.isLt
  by_cases c0 : D.val < 128
  · have e := head0 v0 v1 A B r R h0 h1 ⟨D.val, c0⟩
    have ea : (⟨D.val / 128, by omega⟩ : Fin 4) = 0 := by ext; show D.val / 128 = 0; omega
    have eb : (⟨D.val % 128, by omega⟩ : Fin 128) = ⟨D.val, c0⟩ := by ext; show D.val % 128 = D.val; omega
    pointwise [k0_pay8, ym]
    simp only [c0, dite_true, hg, hp, ea, eb, e, Ideal.logistic]
  by_cases c1 : D.val - 128 < 128
  · have e := head1 v0 v1 A B r R h0 h1 ⟨D.val - 128, c1⟩
    have ea : (⟨D.val / 128, by omega⟩ : Fin 4) = 1 := by ext; show D.val / 128 = 1; omega
    have eb : (⟨D.val % 128, by omega⟩ : Fin 128) = ⟨D.val - 128, c1⟩ := by ext; show D.val % 128 = D.val - 128; omega
    pointwise [k0_pay8, ym]
    simp only [c0, c1, dite_true, dite_false, hg, hp, ea, eb, e, Ideal.logistic]
  by_cases c2 : D.val - 128 - 128 < 128
  · have ea : (⟨D.val / 128, by omega⟩ : Fin 4) = 2 := by ext; show D.val / 128 = 2; omega
    have eb : (⟨D.val % 128, by omega⟩ : Fin 128) = ⟨D.val - 128 - 128, c2⟩ := by ext; show D.val % 128 = D.val - 128 - 128; omega
    have e : nm (ce (hs A B)) (ix3 R (⟨D.val / 128, by omega⟩ : Fin 4) (⟨D.val % 128, by omega⟩ : Fin 128)) = nm (ce (hs A B)) (ix3 R 2 ⟨D.val - 128 - 128, c2⟩) := by rw [ea, eb]
    pointwise [k0_pay8, ym]
    simp only [c0, c1, c2, dite_true, dite_false, hg, hp, Ideal.logistic]
    rw [e]
    pointwise [k0_pay5, k0_pay6, k0_pay2, nm, ce, mu, hs]
    simp only [h0, h1]
  · have c3 : D.val - 128 - 128 - 128 < 128 := by omega
    have ea : (⟨D.val / 128, by omega⟩ : Fin 4) = 3 := by ext; show D.val / 128 = 3; omega
    have eb : (⟨D.val % 128, by omega⟩ : Fin 128) = ⟨D.val - 128 - 128 - 128, c3⟩ := by ext; show D.val % 128 = D.val - 128 - 128 - 128; omega
    have e : nm (ce (hs A B)) (ix3 R (⟨D.val / 128, by omega⟩ : Fin 4) (⟨D.val % 128, by omega⟩ : Fin 128)) = nm (ce (hs A B)) (ix3 R 3 ⟨D.val - 128 - 128 - 128, c3⟩) := by rw [ea, eb]
    pointwise [k0_pay8, ym]
    simp only [c0, c1, c2, dite_true, dite_false, hg, hp, Ideal.logistic]
    rw [e]
    pointwise [k0_pay2, nm, ce, mu, hs]
    simp only [h0, h1]

/-- The branches' product and the last norm, from blocks that hold a row's entries. -/
theorem last (v83 : FVec Ideal S256x1024 .f32) (v84 : FVec Ideal S256x512 .bf16) (v85 : Vec Ideal S512x1024 .bf16) (v88 v91 : Vec Ideal S256x1024 .f32) (v96 : Vec Ideal S1024x1024 .bf16) (v99 : Vec Ideal S256x1024 .f32)
    (X : FVec Ideal Cert.MergeReferenceIdeal.S2x8192x1024 .f32) (P : FVec Ideal Cert.MergeReferenceIdeal.S16384x5760 .f32) (A Y : FVec Ideal Cert.MergeReferenceIdeal.S16384x512 .f32) (Wa Wm : FVec Ideal Cert.MergeReferenceIdeal.S1x512x1024 .f32) (Wo : FVec Ideal Cert.MergeReferenceIdeal.S1x1024x1024 .f32)
    (r : Fin 256) (R : Fin 16384)
    (h83 : ∀ x : Fin 1024, v83 (ix2 r x) = ∑ k : Fin 512, A (ix2 R k) * Wa (ix3 0 k x)) (h84 : ∀ k : Fin 512, v84 (ix2 r k) = Y (ix2 R k))
    (h85 : ∀ (k : Fin 512) (x : Fin 1024), v85 (ix2 k x) = Wm (ix3 0 k x)) (h88 : ∀ x : Fin 1024, v88 (ix2 r x) = P (ix2 R ⟨x.val, by omega⟩))
    (h91 : ∀ x : Fin 1024, v91 (ix2 r x) = P (ix2 R ⟨1024 + x.val, by omega⟩)) (h96 : ∀ (k x : Fin 1024), v96 (ix2 k x) = Wo (ix3 0 k x))
    (h99 : ∀ x : Fin 1024, v99 (ix2 r x) = X (ix3 ⟨R.val / 8192, by omega⟩ ⟨R.val % 8192, by omega⟩ x)) (d : Fin 1024) :
    k0_pay11 v83 v84 v85 v88 v91 v96 v99 (ix2 r d) = nm2 (ce2 (zz X (mg P A Y Wa Wm) Wo)) (ix2 R d) := by
  pointwise [k0_pay11, nm2, ce2, mu2, zz, mg, gt]
  simp only [h83, h84, h85, h88, h91, h96, h99, Ideal.logistic]

/-- The second product's first factor is the attention's result, its second the attention's weights. -/
theorem branch (v79 : Vec Ideal S256x512 .f32) (v81 : Vec Ideal S512x1024 .bf16) (A : FVec Ideal Cert.MergeReferenceIdeal.S16384x512 .f32) (Wa : FVec Ideal Cert.MergeReferenceIdeal.S1x512x1024 .f32) (r : Fin 256) (R : Fin 16384)
    (ha : ∀ k : Fin 512, v79 (ix2 r k) = A (ix2 R k)) (hw : ∀ (k : Fin 512) (x : Fin 1024), v81 (ix2 k x) = Wa (ix3 0 k x)) (x : Fin 1024) :
    k0_pay7 v79 v81 (ix2 r x) = ∑ k : Fin 512, A (ix2 R k) * Wa (ix3 0 k x) := by
  pointwise [k0_pay7]
  simp only [ha, hw]

/-- The gain and the bias. -/
theorem gain (v104 v106 : Vec Ideal S1x1024 .f32) (v123 : FVec Ideal S256x1024 .f32) (N : FVec Ideal Cert.MergeReferenceIdeal.S16384x1024 .f32) (G B : FVec Ideal Cert.MergeReferenceIdeal.S1x1024 .f32) (r : Fin 256) (R : Fin 16384) (d : Fin 1024)
    (hn : v123 (ix2 r d) = N (ix2 R d)) (hg : v104 (ix2 0 d) = G (ix2 0 d)) (hb : v106 (ix2 0 d) = B (ix2 0 d)) :
    k0_pay1 (k0_pay9 v104) (k0_pay10 v106) v123 (ix2 r d) = gb N G B (ix2 R d) := by
  pointwise [k0_pay1, k0_pay9, k0_pay10, gb]
  simp only [hn, hg, hb]

end Cert.Vals.Merge

end
-- ==== Proof.Merge.Claim.lean ====
module

public import proofs.«01_k».proof.Proof.Gen.MergeIdeal.Value
public import proofs.«01_k».proof.Defs
public import proofs.«01_k».proof.Proof.Gen.MergeReferenceIdeal.Run
public import proofs.«01_k».proof.Proof.Merge.Tile
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Merge

open Cert.MergeIdeal Cert.MergeIdeal.Gen

/-- The block each step reads and writes, per window. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 10] ∧ win0_5.index t = ![t.val, 0] ∧ win0_6.index t = ![t.val, 1]
    ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

variable (m : (ℓ : Loc nD τ sig) → Buf (Elt Ideal) ℓ) (c : Dev nD) (t : Fin cfg0.N) (r : Fin 256) (R : Fin 16384)

/-- An entry of x's block, in the whole array. -/
theorem blkX (hR : R.val = 256 * t.val + r.val) (d : Fin 1024) : (iblk m c 0 t : Vec Ideal S256x1024 .f32) (ix2 r d) = (m ((c : Thread nD τ).loc main_arg0) : Vec Ideal S2x8192x1024 .f32) (ix3 ⟨R.val / 8192, by omega⟩ ⟨R.val % 8192, by omega⟩ d) := by
  blk_point [iblk, V, idx t]

/-- An entry of the attention's block, in the whole array. -/
theorem blkA (hR : R.val = 256 * t.val + r.val) (d : Fin 512) : (iblk m c 1 t : Vec Ideal S256x512 .f32) (ix2 r d) = (m ((c : Thread nD τ).loc main_arg1) : Vec Ideal S16384x512 .f32) (ix2 R d) := by
  blk_ext [iblk, V, idx t]

/-- An entry of the forward recurrence's block, in the whole array. -/
theorem blkF (hR : R.val = 256 * t.val + r.val) (d : Fin 512) : (iblk m c 2 t : Vec Ideal S256x512 .f32) (ix2 r d) = (m ((c : Thread nD τ).loc main_arg2) : Vec Ideal S16384x512 .f32) (ix2 R d) := by
  blk_ext [iblk, V, idx t]

/-- An entry of the backward recurrence's block, in the whole array. -/
theorem blkB (hR : R.val = 256 * t.val + r.val) (d : Fin 512) : (iblk m c 3 t : Vec Ideal S256x512 .f32) (ix2 r d) = (m ((c : Thread nD τ).loc main_arg3) : Vec Ideal S16384x512 .f32) (ix2 R d) := by
  blk_ext [iblk, V, idx t]

/-- An entry of the output gate's block: columns from 5120 of the projected array. -/
theorem blkO (hR : R.val = 256 * t.val + r.val) (d : Fin 512) : (X0_4 m c t : Vec Ideal S256x512 .f32) (ix2 r d) = (m ((c : Thread nD τ).loc main_arg4) : Vec Ideal S16384x5760 .f32) (ix2 R ⟨5120 + d.val, by omega⟩) := by
  unfold X0_4 Pipeline.Window.fill
  rw [dif_pos (moved0_4 t _)]
  blk_ext [iblk, V, idx t]

/-- An entry of the first branch gate's block: columns from 0 of the projected array. -/
theorem blkP (hR : R.val = 256 * t.val + r.val) (d : Fin 1024) : (X0_5 m c t : Vec Ideal S256x1024 .f32) (ix2 r d) = (m ((c : Thread nD τ).loc main_arg4) : Vec Ideal S16384x5760 .f32) (ix2 R ⟨d.val, by omega⟩) := by
  unfold X0_5 Pipeline.Window.fill
  rw [dif_pos (moved0_5 t _)]
  blk_ext [iblk, V, idx t]

/-- An entry of the second branch gate's block: columns from 1024 of the projected array. -/
theorem blkQ (hR : R.val = 256 * t.val + r.val) (d : Fin 1024) : (X0_6 m c t : Vec Ideal S256x1024 .f32) (ix2 r d) = (m ((c : Thread nD τ).loc main_arg4) : Vec Ideal S16384x5760 .f32) (ix2 R ⟨1024 + d.val, by omega⟩) := by
  unfold X0_6 Pipeline.Window.fill
  rw [dif_pos (moved0_6 t _)]
  blk_ext [iblk, V, idx t]

/-- An entry of the head norm's weight. -/
theorem blkG (d : Fin 512) : (iblk m c 7 t : Vec Ideal S1x512 .f32) (ix2 0 d) = (m ((c : Thread nD τ).loc main_arg5) : Vec Ideal S1x512 .f32) (ix2 0 d) := by
  blk_point [iblk, V, idx t]

/-- An entry of the attention branch's weight. -/
theorem blkWa (k : Fin 512) (d : Fin 1024) : (iblk m c 8 t : Vec Ideal S512x1024 .bf16) (ix2 k d) = (m ((c : Thread nD τ).loc main_arg6) : Vec Ideal S1x512x1024 .f32) (ix3 0 k d) := by
  blk_point [iblk, V, idx t]

/-- An entry of the recurrent branch's weight. -/
theorem blkWm (k : Fin 512) (d : Fin 1024) : (iblk m c 9 t : Vec Ideal S512x1024 .bf16) (ix2 k d) = (m ((c : Thread nD τ).loc main_arg7) : Vec Ideal S1x512x1024 .f32) (ix3 0 k d) := by
  blk_point [iblk, V, idx t]

/-- An entry of the output weight. -/
theorem blkWo (k : Fin 1024) (d : Fin 1024) : (iblk m c 10 t : Vec Ideal S1024x1024 .bf16) (ix2 k d) = (m ((c : Thread nD τ).loc main_arg8) : Vec Ideal S1x1024x1024 .f32) (ix3 0 k d) := by
  blk_point [iblk, V, idx t]

/-- An entry of the layer norm's weight. -/
theorem blkLg (d : Fin 1024) : (iblk m c 11 t : Vec Ideal S1x1024 .f32) (ix2 0 d) = (m ((c : Thread nD τ).loc main_arg9) : Vec Ideal S1x1024 .f32) (ix2 0 d) := by
  blk_point [iblk, V, idx t]

/-- An entry of the layer norm's bias. -/
theorem blkLb (d : Fin 1024) : (iblk m c 12 t : Vec Ideal S1x1024 .f32) (ix2 0 d) = (m ((c : Thread nD τ).loc main_arg10) : Vec Ideal S1x1024 .f32) (ix2 0 d) := by
  blk_point [iblk, V, idx t]

/-- The whole result array is the reference's. -/
theorem final : (dats m 0 c).arrAt 13 (cfgs 0).N = gb (nm2 (ce2 (zz (m ((c : Thread nD τ).loc main_arg0)) (mg (m ((c : Thread nD τ).loc main_arg4)) (m ((c : Thread nD τ).loc main_arg1)) (ym (nm (ce (hs (m ((c : Thread nD τ).loc main_arg2)) (m ((c : Thread nD τ).loc main_arg3))))) (m ((c : Thread nD τ).loc main_arg5)) (m ((c : Thread nD τ).loc main_arg4))) (m ((c : Thread nD τ).loc main_arg6)) (m ((c : Thread nD τ).loc main_arg7))) (m ((c : Thread nD τ).loc main_arg8))))) (m ((c : Thread nD τ).loc main_arg9)) (m ((c : Thread nD τ).loc main_arg10)) := by
  refine (dats m 0 c).arrAt_eq_of_covers 13 _ (by decide +kernel) fun t _ y => ?_
  blk_simp
  rw [after0_13]
  unfold outsAt0
  frame_out
  obtain ⟨r, d, rfl⟩ : ∃ (r : Fin 256) (d : Fin 1024), y = (ix2 r d : S256x1024.Idx) := ⟨y 0, y 1, by funext a; fin_cases a <;> rfl⟩
  have ht : t.val < 64 := t.isLt
  have e : (win0_13.blk t).view.emb (ix2 r d : S256x1024.Idx) = ix2 (⟨256 * t.val + r.val, by omega⟩ : Fin 16384) d := by
    blk_ext [idx t]
  refine Eq.trans ?_ (congrArg _ e.symm)
  refine gain _ _ _ _ _ _ r ⟨256 * t.val + r.val, by omega⟩ d ?_ (blkLg m c t d) (blkLb m c t d)
  refine last _ _ _ _ _ _ _ _ _ _ _ _ _ _ r _ (branch _ _ _ _ r _ (blkA m c t r _ rfl) (blkWa m c t)) ?_ (blkWm m c t) (blkP m c t r _ rfl) (blkQ m c t r _ rfl) (blkWo m c t) (blkX m c t r _ rfl) d
  exact heads _ _ _ _ _ _ _ _ r _ (blkF m c t r _ rfl) (blkB m c t r _ rfl) (blkG m c t) (blkO m c t r _ rfl)

/-- The merge's call computes the reference's merge. -/
theorem algebraic : Cert.algebraic_MergeIdeal_MergeReferenceIdeal := by
  pair_intro
  · run_from Cert.MergeIdeal.Value.run_blocks m g
  · run_from Cert.MergeReferenceIdeal.Value.run m' g'
    obtain ⟨e0, e1, e2, e3, e4, e5, e6, e7, e8, e9, e10⟩ := hagree c
    rw [res_eq, e0, e1, e2, e3, e4, e5, e6, e7, e8, e9, e10]
    exact (final m c).symm

end Cert.Vals.Merge

end
-- ==== Proof.Query.Claim.lean ====
module

public import proofs.«01_k».proof.Proof.Gen.QueryIdeal.Value
public import proofs.«01_k».proof.Defs
public import proofs.«01_k».proof.Proof.Gen.QueryReferenceIdeal.Run
public import proofs.«01_k».proof.Proof.Real
public import proofs.«01_k».proof.Proof.Gen.Pre_finite_query
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Query

open Cert.QueryIdeal Cert.QueryIdeal.Gen

/-- The reference's result as a term over the tokens and the weights. -/
abbrev REF (X : FVec Ideal Cert.QueryReferenceIdeal.S16384x1024 .f32) (Wt : FVec Ideal Cert.QueryReferenceIdeal.S1x1024x2048 .f32) : FVec Ideal Cert.QueryReferenceIdeal.S16384x2048 .f32 :=
  Host.dotGeneral Cert.QueryReferenceIdeal.dot_S16384x1024_S1024x2048_S16384x2048_1_0_0_1_n_n none X (shapeCast _ Wt Cert.QueryReferenceIdeal.Gen.shapeCasts_S1x1024x2048_S1024x2048)

/-- A real number less itself is nothing. -/
theorem sub_self_real {x : EReal} (h : ((x.toReal : ℝ) : EReal) = x) : x - x = 0 := by
  rw [← h, ← EReal.coe_sub, sub_self, EReal.coe_zero]

/-- The block each step reads and writes, per window. -/
theorem idx : ∀ t : Fin cfg0.N, win0_0.index t = ![t.val / 4, 0] ∧ win0_1.index t = ![0, t.val % 4] ∧ win0_2.index t = ![0, t.val % 4] ∧ win0_3.index t = ![t.val / 4, t.val % 4] :=
  (by decide +kernel : ∀ t : Fin grid0.N, _)

variable (m : (ℓ : Loc nD τ sig) → Buf (Elt Ideal) ℓ)

/-- The token block at a point. -/
theorem blkX (c : Dev nD) (t : Fin cfg0.N) (r : Fin 512) (k : Fin 1024) (R : Fin 16384) (hR : R.val = 512 * (t.val / 4) + r.val) :
    (iblk m c 0 t : Vec Ideal S512x1024 .f32) (ix2 r k) = (m ((c : Thread nD τ).loc main_arg0) : Vec Ideal S16384x1024 .f32) (ix2 R k) := by
  blk_ext [iblk, V, idx t]

/-- The high part of the weights is the weights. -/
theorem blkHi (c : Dev nD) (t : Fin cfg0.N) (k : Fin 1024) (d : Fin 512) (D : Fin 2048) (hD : D.val = 512 * (t.val % 4) + d.val) :
    (iblk m c 1 t : Vec Ideal S1024x512 .bf16) (ix2 k d) = (m ((c : Thread nD τ).loc main_arg1) : Vec Ideal S1x1024x2048 .f32) (ix3 0 k D) := by
  blk_point [iblk, V, idx t]

/-- The low part of the weights is what is left of them: a difference with themselves. -/
theorem blkLo (c : Dev nD) (t : Fin cfg0.N) (k : Fin 1024) (d : Fin 512) (D : Fin 2048) (hD : D.val = 512 * (t.val % 4) + d.val) :
    (iblk m c 2 t : Vec Ideal S1024x512 .bf16) (ix2 k d) = (fun x : EReal => x - x) ((m ((c : Thread nD τ).loc main_arg1) : Vec Ideal S1x1024x2048 .f32) (ix3 0 k D)) := by
  show V m c main_v4 ((win0_2.blk t).view.emb (ix2 k d : S1024x512.Idx)) = _
  have e : (win0_2.blk t).view.emb (ix2 k d : S1024x512.Idx) = ix2 k D := by blk_ext [idx t]
  rw [e]
  entry_read
  pointwise

/-- One block of the kernel is the reference's: over real numbers the low parts are zero. -/
theorem point (c : Dev nD) (hX : ∀ (a : Fin 16384) (b : Fin 1024), ((((m ((c : Thread nD τ).loc main_arg0) : FVec Ideal S16384x1024 .f32) (ix2 a b)).toReal : ℝ) : EReal) = (m ((c : Thread nD τ).loc main_arg0) : FVec Ideal S16384x1024 .f32) (ix2 a b))
    (hW : ∀ (a : Fin 1) (b : Fin 1024) (d : Fin 2048), ((((m ((c : Thread nD τ).loc main_arg1) : FVec Ideal S1x1024x2048 .f32) (ix3 a b d)).toReal : ℝ) : EReal) = (m ((c : Thread nD τ).loc main_arg1) : FVec Ideal S1x1024x2048 .f32) (ix3 a b d))
    (t : Fin cfg0.N) (y) :
    k0_pay1 (iblk m c 0 t) (iblk m c 1 t) (iblk m c 2 t) y = REF (m ((c : Thread nD τ).loc main_arg0)) (m ((c : Thread nD τ).loc main_arg1)) (((cfg0.win 3).blk t).view.emb y) := by
  obtain ⟨r, d, rfl⟩ : ∃ (r : Fin 512) (d : Fin 512), y = (ix2 r d : S512x512.Idx) := ⟨y 0, y 1, by funext a; fin_cases a <;> rfl⟩
  have ht : t.val < 128 := t.isLt
  have e : (win0_3.blk t).view.emb (ix2 r d : S512x512.Idx) = ix2 (⟨512 * (t.val / 4) + r.val, by omega⟩ : Fin 16384) (⟨512 * (t.val % 4) + d.val, by omega⟩ : Fin 2048) := by
    blk_ext [idx t]
  show _ = REF _ _ ((win0_3.blk t).view.emb (ix2 r d : S512x512.Idx))
  rw [e]
  pointwise [k0_pay1, REF]
  have z : ∀ {x : EReal}, x = 0 → ∀ y, y + x = y := fun h y => by rw [h, add_zero]
  refine (z (Finset.sum_eq_zero fun k _ => ?_) _).trans ((z (Finset.sum_eq_zero fun k _ => ?_) _).trans (Finset.sum_congr rfl fun k _ => ?_))
  · rw [blkX m c t r k ⟨512 * (t.val / 4) + r.val, by omega⟩ rfl, sub_self_real (hX _ _), zero_mul]
  · rw [blkLo m c t k d ⟨512 * (t.val % 4) + d.val, by omega⟩ rfl]; show _ * (_ - _) = (0 : EReal); rw [sub_self_real (hW _ _ _), mul_zero]
  · rw [blkX m c t r k ⟨512 * (t.val / 4) + r.val, by omega⟩ rfl, blkHi m c t k d ⟨512 * (t.val % 4) + d.val, by omega⟩ rfl]

/-- The whole result array is the reference's, for finite tokens and weights. -/
theorem final (c : Dev nD) (hX : ∀ (a : Fin 16384) (b : Fin 1024), ((((m ((c : Thread nD τ).loc main_arg0) : FVec Ideal S16384x1024 .f32) (ix2 a b)).toReal : ℝ) : EReal) = (m ((c : Thread nD τ).loc main_arg0) : FVec Ideal S16384x1024 .f32) (ix2 a b))
    (hW : ∀ (a : Fin 1) (b : Fin 1024) (d : Fin 2048), ((((m ((c : Thread nD τ).loc main_arg1) : FVec Ideal S1x1024x2048 .f32) (ix3 a b d)).toReal : ℝ) : EReal) = (m ((c : Thread nD τ).loc main_arg1) : FVec Ideal S1x1024x2048 .f32) (ix3 a b d)) :
    (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c hX hW t y

/-- The query product's call computes the reference's product. -/
theorem algebraic : Cert.algebraic_QueryIdeal_QueryReferenceIdeal_pre_finite_query := by
  pair_intro
  · run_from Cert.QueryIdeal.Value.run_blocks m g
  · run_from Cert.QueryReferenceIdeal.Value.run m' g'
    obtain ⟨hX, hW⟩ := Cert.Real.pre_q _ _ (hpre c)
    exact (final m c hX hW).symm

end Cert.Vals.Query

end
-- ==== Proof.Conv.Ref.lean ====
module

public import proofs.«01_k».proof.Proof.Gen.ConvReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Conv

open Cert.ConvReferenceIdeal Cert.ConvReferenceIdeal.Gen

/-- The convolution's input with two zero rows before and after each batch. -/
def xp (P : FVec Ideal S16384x5760 .f32) : FVec Ideal S2x8196x1024 .f32 :=
  pad S2x8196x1024 ![0, 2, 0] ![0, 2, 0] ![0, 0, 0] (shapeCast _ (extractStridedSlice S16384x1024 ![0, 3584] P slices_S16384x5760_S16384x1024_0_3584) shapeCasts_S16384x1024_S2x8192x1024) (sitofp .f32 (constantI S_ 32 0#32)) pads_S2x8192x1024_S2x8196x1024_000_220_000 h_S_

/-- One tap's weights, repeated for every position. -/
def wt (T : FVec Ideal S1x1x1024 .f32) : FVec Ideal S2x8192x1024 .f32 :=
  broadcastInDim S2x8192x1024 ![0, 1, 2] bcast_S1x1x1024_S2x8192x1024_0_1_2 (broadcastInDim S1x1x1024 ![2] bcast_S1024_S1x1x1024_2 (shapeCast _ T shapeCasts_S1x1x1024_S1024))

/-- The sum of the five shifted products and the bias. -/
def cv (X : FVec Ideal S2x8196x1024 .f32) (Wt : FVec Ideal S1x5x1024 .f32) (B : FVec Ideal S1x1024 .f32) : FVec Ideal S2x8192x1024 .f32 :=
  addf (addf (addf (addf (addf (addf (broadcastInDim S2x8192x1024 ![] bcast_S_S2x8192x1024 (constant S_ .f32 0x00000000#32))
    (mulf (extractStridedSlice S2x8192x1024 ![0, 0, 0] X slices_S2x8196x1024_S2x8192x1024_0_0_0) (wt (extractStridedSlice S1x1x1024 ![0, 0, 0] Wt slices_S1x5x1024_S1x1x1024_0_0_0))))
    (mulf (extractStridedSlice S2x8192x1024 ![0, 1, 0] X slices_S2x8196x1024_S2x8192x1024_0_1_0) (wt (extractStridedSlice S1x1x1024 ![0, 1, 0] Wt slices_S1x5x1024_S1x1x1024_0_1_0))))
    (mulf (extractStridedSlice S2x8192x1024 ![0, 2, 0] X slices_S2x8196x1024_S2x8192x1024_0_2_0) (wt (extractStridedSlice S1x1x1024 ![0, 2, 0] Wt slices_S1x5x1024_S1x1x1024_0_2_0))))
    (mulf (extractStridedSlice S2x8192x1024 ![0, 3, 0] X slices_S2x8196x1024_S2x8192x1024_0_3_0) (wt (extractStridedSlice S1x1x1024 ![0, 3, 0] Wt slices_S1x5x1024_S1x1x1024_0_3_0))))
    (mulf (extractStridedSlice S2x8192x1024 ![0, 4, 0] X slices_S2x8196x1024_S2x8192x1024_0_4_0) (wt (extractStridedSlice S1x1x1024 ![0, 4, 0] Wt slices_S1x5x1024_S1x1x1024_0_4_0))))
    (broadcastInDim S2x8192x1024 ![0, 1, 2] bcast_S1x1x1024_S2x8192x1024_0_1_2 (broadcastInDim S1x1x1024 ![2] bcast_S1024_S1x1x1024_2 (shapeCast _ B shapeCasts_S1x1024_S1024)))

/-- Each value times its logistic. -/
def sl (Y : FVec Ideal S2x8192x1024 .f32) : FVec Ideal S2x8192x1024 .f32 :=
  mulf Y (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf Y))))

/-- The two halves, the second scaled, as one array of rows. -/
def REF (Z : FVec Ideal S2x8192x1024 .f32) : FVec Ideal S16384x1024 .bf16 :=
  truncf .bf16 (shapeCast _ (concatenate S2x8192x1024 2 [⟨S2x8192x512, extractStridedSlice S2x8192x512 ![0, 0, 0] Z slices_S2x8192x1024_S2x8192x512_0_0_0⟩,
    ⟨S2x8192x512, mulf (extractStridedSlice S2x8192x512 ![0, 0, 512] Z slices_S2x8192x1024_S2x8192x512_0_0_512) (broadcastInDim S2x8192x512 ![] bcast_S_S2x8192x512 (constant S_ .f32 0x3DB504F3#32))⟩] concatenates_S2x8192x512_S2x8192x512_S2x8192x1024_d2) shapeCasts_S2x8192x1024_S16384x1024) bitsLt_bf16_f32

/-- The reference's result is the stages' composition. -/
theorem res_eq (m : (ℓ : Loc nD τ sig) → Buf (Elt Ideal) ℓ) (c : Dev nD) : Value.res_main_v50 m c =
    REF (sl (cv (xp (m ((c : Thread nD τ).loc main_arg0))) (m ((c : Thread nD τ).loc main_arg1)) (m ((c : Thread nD τ).loc main_arg2)))) := by
  unfold Value.res_main_v50 REF sl cv wt xp
  rfl

variable (P : FVec Ideal S16384x5760 .f32) (Wt : FVec Ideal S1x5x1024 .f32) (B : FVec Ideal S1x1024 .f32) (X : FVec Ideal S2x8196x1024 .f32) (Y : FVec Ideal S2x8192x1024 .f32)
variable (b : Fin 2) (s : Fin 8192) (D : Fin 1024) (q : Fin 8196) (R : Fin 16384) (d : Fin 512)

/-- A row inside a batch. -/
theorem xp_in (h0 : 2 ≤ q.val) (h1 : q.val - 2 < 8192) : xp P (ix3 b q D) = P (ix2 (⟨b.val * 8192 + (q.val - 2), by omega⟩ : Fin 16384) (⟨3584 + D.val, by omega⟩ : Fin 5760)) := by
  pointwise [xp]
  rw [dif_pos ⟨h0, h1⟩]

/-- A row before or after a batch. -/
theorem xp_out (h : ¬ (2 ≤ q.val ∧ q.val - 2 < 8192)) : xp P (ix3 b q D) = (0 : EReal) := by
  pointwise [xp]
  rw [dif_neg h]
  show ((((0#32 : BitVec 32).toInt : ℝ)) : EReal) = 0
  simp

/-- An entry of the convolution. -/
theorem cv_at : cv X Wt B (ix3 b s D) = (0 + X (ix3 b ⟨s.val, by omega⟩ D) * Wt (ix3 0 0 D) + X (ix3 b ⟨1 + s.val, by omega⟩ D) * Wt (ix3 0 1 D) + X (ix3 b ⟨2 + s.val, by omega⟩ D) * Wt (ix3 0 2 D)
    + X (ix3 b ⟨3 + s.val, by omega⟩ D) * Wt (ix3 0 3 D) + X (ix3 b ⟨4 + s.val, by omega⟩ D) * Wt (ix3 0 4 D) + B (ix2 0 D) : EReal) := by
  pointwise [cv, wt]

/-- An entry times its logistic. -/
theorem sl_at : sl Y (ix3 b s D) = (Y (ix3 b s D) * Ideal.div 1 (1 + Ideal.exp (-(Y (ix3 b s D) : EReal))) : EReal) := by
  pointwise [sl]

/-- An entry of the first half. -/
theorem ref_lo : REF Y (ix2 R ⟨d.val, by omega⟩) = Y (ix3 (⟨R.val / 8192, by omega⟩ : Fin 2) ⟨R.val % 8192, by omega⟩ ⟨d.val, by omega⟩) := by
  pointwise [REF]

/-- An entry of the second half. -/
theorem ref_hi : REF Y (ix2 R ⟨512 + d.val, by omega⟩) = (Y (ix3 (⟨R.val / 8192, by omega⟩ : Fin 2) ⟨R.val % 8192, by omega⟩ ⟨512 + d.val, by omega⟩) * constant (F := Ideal) S_ .f32 0x3DB504F3#32 ix0 : EReal) := by
  pointwise [REF]

end Cert.Vals.Conv

end
-- ==== Proof.Conv.Tile.lean ====
module

public import proofs.«01_k».proof.Proof.Gen.ConvIdeal.Value
public import proofs.«01_k».proof.Defs
public import proofs.«01_k».proof.Proof.Gen.ConvReferenceIdeal.Run
public import proofs.«01_k».proof.Proof.Conv.Ref
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Conv

open Cert.ConvIdeal Cert.ConvIdeal.Gen

/-- Whether a row block is the first of its batch, as the kernel computes it. -/
def first (n : ℕ) : BitVec 1 :=
  let v1 : BitVec 32 := Scalar.select (Scalar.cmpi .eq 16#32 0#32) 1#32 16#32
  let v2 : BitVec 32 := Scalar.remsi (BitVec.ofNat 32 n) v1
  Scalar.cmpi .eq (Scalar.select (Scalar.andi (Scalar.xori (Scalar.cmpi .slt v2 0#32) (Scalar.cmpi .slt v1 0#32)) (Scalar.cmpi .ne v2 0#32)) (Scalar.addi v2 v1) v2) 0#32

/-- Whether a row block is the last of its batch, as the kernel computes it. -/
def final1 (n : ℕ) : BitVec 1 :=
  let v1 : BitVec 32 := Scalar.select (Scalar.cmpi .eq 16#32 0#32) 1#32 16#32
  let v2 : BitVec 32 := Scalar.remsi (BitVec.ofNat 32 n) v1
  Scalar.cmpi .eq (Scalar.select (Scalar.andi (Scalar.xori (Scalar.cmpi .slt v2 0#32) (Scalar.cmpi .slt v1 0#32)) (Scalar.cmpi .ne v2 0#32)) (Scalar.addi v2 v1) v2) 15#32

/-- A row block begins a sequence when its number is a multiple of sixteen. -/
theorem first_val : ∀ n : Fin 32, first n.val = if n.val % 16 = 0 then 1#1 else 0#1 := by decide +kernel

/-- A row block ends a sequence when its number is fifteen more than a multiple of sixteen. -/
theorem final1_val : ∀ n : Fin 32, final1 n.val = if n.val % 16 = 15 then 1#1 else 0#1 := by decide +kernel

variable (i : grid0.Coords) (a z : FVec Ideal S8x512 .f32) (x : FVec Ideal S512x512 .f32)

/-- The rows around a block, one under the other. -/
theorem rows_eq : k0_pay2 i a z x = concatenate S528x512 0 [⟨S8x512, Scalar.select (first (i 0).val) (broadcast S8x512 (Scalar.ofBits (F := Ideal) .f32 0x00000000#32)) a⟩, ⟨S512x512, x⟩, ⟨S8x512, Scalar.select (final1 (i 0).val) (broadcast S8x512 (Scalar.ofBits (F := Ideal) .f32 0x00000000#32)) z⟩] concatenates_S8x512_S512x512_S8x512_S528x512_d0 := rfl

variable (n : Fin 32) (hn : (i 0).val = n.val) (q : Fin 528) (d : Fin 512)

include hn in
/-- A row of the block before. -/
theorem rows_before (hq : q.val < 8) : k0_pay2 (F := Ideal) i a z x (ix2 q d) = if n.val % 16 = 0 then (0 : EReal) else a (ix2 ⟨q.val, hq⟩ d) := by
  rw [rows_eq, hn, first_val, final1_val]
  by_cases g : n.val % 16 = 0 <;> by_cases k : n.val % 16 = 15
  all_goals simp only [g, k, if_true, if_false]
  all_goals pointwise []
  all_goals rw [dif_pos hq]

/-- A row of the block itself. -/
theorem rows_in (h0 : ¬ q.val < 8) (hq : q.val - 8 < 512) : k0_pay2 (F := Ideal) i a z x (ix2 q d) = x (ix2 ⟨q.val - 8, hq⟩ d) := by
  rw [rows_eq]
  pointwise []
  rw [dif_neg h0, dif_pos hq]

include hn in
/-- A row of the block after. -/
theorem rows_after (h0 : ¬ q.val < 8) (h1 : ¬ q.val - 8 < 512) : k0_pay2 (F := Ideal) i a z x (ix2 q d) = if n.val % 16 = 15 then (0 : EReal) else z (ix2 ⟨q.val - 8 - 512, by omega⟩ d) := by
  rw [rows_eq, hn, first_val, final1_val]
  by_cases g : n.val % 16 = 0 <;> by_cases k : n.val % 16 = 15
  all_goals simp only [g, k, if_true, if_false]
  all_goals pointwise []
  all_goals rw [dif_neg h0, dif_neg h1]

variable (P : FVec Ideal S16384x5760 .f32) (h : Fin 2)

include hn in
/-- Around a block stand the rows of its own batch, and zeros beyond the batch's ends. -/
theorem rows_xp (ha : n.val % 16 ≠ 0 → ∀ (y : Fin 8) (R : Fin 16384) (D : Fin 5760), R.val + 8 = 512 * n.val + y.val → D.val = 3584 + (512 * h.val + d.val) → a (ix2 y d) = P (ix2 R D))
    (hx : ∀ (y : Fin 512) (R : Fin 16384) (D : Fin 5760), R.val = 512 * n.val + y.val → D.val = 3584 + (512 * h.val + d.val) → x (ix2 y d) = P (ix2 R D))
    (hz : n.val % 16 ≠ 15 → ∀ (y : Fin 8) (R : Fin 16384) (D : Fin 5760), R.val = 512 * n.val + 512 + y.val → D.val = 3584 + (512 * h.val + d.val) → z (ix2 y d) = P (ix2 R D))
    (g0 : 6 ≤ q.val) (g1 : q.val < 522) (b : Fin 2) (S : Fin 8196) (D : Fin 1024) (hb : b.val = n.val / 16) (hS : S.val + 6 = 512 * (n.val % 16) + q.val) (hD : D.val = 512 * h.val + d.val) :
    k0_pay2 (F := Ideal) i a z x (ix2 q d) = xp P (ix3 b S D) := by
  by_cases c0 : q.val < 8
  · rw [rows_before i a z x n hn q d c0]
    by_cases c1 : n.val % 16 = 0
    · rw [if_pos c1, xp_out P b D S (by omega)]
    · rw [if_neg c1, xp_in P b D S (by omega) (by omega)]
      exact ha c1 _ _ _ (by simp only; omega) (by simp only; omega)
  · by_cases c1 : q.val - 8 < 512
    · rw [rows_in i a z x q d c0 c1, xp_in P b D S (by omega) (by omega)]
      exact hx _ _ _ (by simp only; omega) (by simp only; omega)
    · rw [rows_after i a z x n hn q d c0 c1]
      by_cases c2 : n.val % 16 = 15
      · rw [if_pos c2, xp_out P b D S (by omega)]
      · rw [if_neg c2, xp_in P b D S (by omega) (by omega)]
        exact hz c2 _ _ _ (by simp only; omega) (by simp only; omega)

variable (e : BitVec 32) (r : Fin 512) (bi w0 w1 w2 w3 w4 : FVec Ideal S1x512 .f32)
variable (X : FVec Ideal Cert.ConvReferenceIdeal.S2x8196x1024 .f32) (Wt : FVec Ideal Cert.ConvReferenceIdeal.S1x5x1024 .f32) (B : FVec Ideal Cert.ConvReferenceIdeal.S1x1024 .f32) (b : Fin 2) (s : Fin 8192) (D : Fin 1024)

/-- An entry of the kernel's block is the reference's entry times the kernel's choice of scale. -/
theorem tile (hr : ∀ (Q : Fin 528) (S : Fin 8196), Q.val + s.val = S.val + 6 + r.val → 6 ≤ Q.val → Q.val < 522 → k0_pay2 (F := Ideal) i a z x (ix2 Q d) = X (ix3 b S D))
    (hb : bi (ix2 0 d) = B (ix2 0 D)) (h0 : w0 (ix2 0 d) = Wt (ix3 0 0 D)) (h1 : w1 (ix2 0 d) = Wt (ix3 0 1 D)) (h2 : w2 (ix2 0 d) = Wt (ix3 0 2 D)) (h3 : w3 (ix2 0 d) = Wt (ix3 0 3 D)) (h4 : w4 (ix2 0 d) = Wt (ix3 0 4 D)) :
    k0_pay1 (F := Ideal) e (k0_pay2 i a z x) (k0_pay3 i a z x bi w0) (k0_pay4 i a z x) w1 w2 w3 w4 (ix2 r d) = (sl (cv X Wt B) (ix3 b s D) * Scalar.select (Scalar.cmpi CmpIPredicate.eq e 1#32) (Ideal.ofBits FTy.f32 1035273459#32) 1 : EReal) := by
  rw [sl_at, cv_at]
  pointwise [k0_pay1, k0_pay3, k0_pay4]
  rw [hr _ ⟨s.val, by omega⟩ (by simp only; omega) (by simp only; omega) (by simp only; omega), hr _ ⟨1 + s.val, by omega⟩ (by simp only; omega) (by simp only; omega) (by simp only; omega),
    hr _ ⟨2 + s.val, by omega⟩ (by simp only; omega) (by simp only; omega) (by simp only; omega), hr _ ⟨3 + s.val, by omega⟩ (by simp only; omega) (by simp only; omega) (by simp only; omega),
    hr _ ⟨4 + s.val, by omega⟩ (by simp only; omega) (by simp only; omega) (by simp only; omega), hb, h0, h1, h2, h3, h4]
  have E : ∀ u0 u1 u2 u3 u4 v : EReal, v + u0 + u1 + u2 + u3 + u4 = u0 + u1 + u2 + u3 + u4 + v := fun u0 u1 u2 u3 u4 v => by
    rw [add_comm _ v]
    simp only [← add_assoc]
  rw [E]
  simp only [Ideal.logistic]

end Cert.Vals.Conv

end
-- ==== Proof.Conv.Claim.lean ====
module

public import proofs.«01_k».proof.Proof.Gen.ConvIdeal.Value
public import proofs.«01_k».proof.Defs
public import proofs.«01_k».proof.Proof.Gen.ConvReferenceIdeal.Run
public import proofs.«01_k».proof.Proof.Conv.Ref
public import proofs.«01_k».proof.Proof.Conv.Tile
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Conv

open Cert.ConvIdeal Cert.ConvIdeal.Gen

/-- The block each step reads and writes, per window. -/
theorem idx : ∀ t : Fin cfg0.N, win0_0.index t = ![64 * (t.val / 2) - 1, 7 + t.val % 2] ∧ win0_1.index t = ![t.val / 2, 7 + t.val % 2] ∧ win0_2.index t = ![min (64 * (t.val / 2 + 1)) 2047, 7 + t.val % 2] ∧ win0_3.index t = ![0, t.val % 2]
    ∧ win0_4.index t = ![0, t.val % 2] ∧ win0_5.index t = ![t.val / 2, t.val % 2] :=
  (by decide +kernel : ∀ t : Fin grid0.N, _)

/-- A step's row block and column block. -/
theorem crd : ∀ t : Fin cfg0.N, (grid0.coords t 0).val = t.val / 2 ∧ (grid0.coords t 1).val = t.val % 2 :=
  (by decide +kernel : ∀ t : Fin grid0.N, _)

variable (m : (ℓ : Loc nD τ sig) → Buf (Elt Ideal) ℓ) (c : Dev nD) (t : Fin cfg0.N) (R : Fin 16384) (d : Fin 512) (C : Fin 5760) (D : Fin 1024)

/-- A row of the block before. -/
theorem blkA (h : t.val / 2 ≠ 0) (y : Fin 8) (hR : R.val + 8 = 512 * (t.val / 2) + y.val) (hC : C.val = 3584 + (512 * (t.val % 2) + d.val)) : (X0_0 m c t : Vec Ideal S8x512 .f32) (ix2 y d) = (m ((c : Thread nD τ).loc main_arg0) : Vec Ideal S16384x5760 .f32) (ix2 R C) := by
  unfold X0_0 Pipeline.Window.fill
  rw [dif_pos (moved0_0 t _)]
  blk_ext [iblk, V, idx t]

/-- A row of the block itself. -/
theorem blkX (y : Fin 512) (hR : R.val = 512 * (t.val / 2) + y.val) (hC : C.val = 3584 + (512 * (t.val % 2) + d.val)) : (X0_1 m c t : Vec Ideal S512x512 .f32) (ix2 y d) = (m ((c : Thread nD τ).loc main_arg0) : Vec Ideal S16384x5760 .f32) (ix2 R C) := by
  unfold X0_1 Pipeline.Window.fill
  rw [dif_pos (moved0_1 t _)]
  blk_ext [iblk, V, idx t]

/-- A row of the block after. -/
theorem blkZ (h : t.val / 2 ≠ 31) (y : Fin 8) (hR : R.val = 512 * (t.val / 2) + 512 + y.val) (hC : C.val = 3584 + (512 * (t.val % 2) + d.val)) : (X0_2 m c t : Vec Ideal S8x512 .f32) (ix2 y d) = (m ((c : Thread nD τ).loc main_arg0) : Vec Ideal S16384x5760 .f32) (ix2 R C) := by
  have ht : t.val < 64 := t.isLt
  unfold X0_2 Pipeline.Window.fill
  rw [dif_pos (moved0_2 t _)]
  have e : min (64 * (t.val / 2 + 1)) 2047 = 64 * (t.val / 2 + 1) := by omega
  blk_ext [iblk, V, idx t, e]

/-- The taps' weights. -/
theorem blkW (k : Fin 5) (hD : D.val = 512 * (t.val % 2) + d.val) : (iblk m c 3 t : Vec Ideal S5x512 .f32) (ix2 k d) = (m ((c : Thread nD τ).loc main_arg1) : Vec Ideal S1x5x1024 .f32) (ix3 0 k D) := by
  blk_point [iblk, V, idx t]

/-- The bias. -/
theorem blkB (hD : D.val = 512 * (t.val % 2) + d.val) : (iblk m c 4 t : Vec Ideal S1x512 .f32) (ix2 0 d) = (m ((c : Thread nD τ).loc main_arg2) : Vec Ideal S1x1024 .f32) (ix2 0 D) := by
  blk_point [iblk, V, idx t]

/-- Two coordinates fix an index. -/
theorem ix2_eq {n k : ℕ} {a : Fin n} {b : Fin k} (i : (⟨2, ![n, k]⟩ : Shape).Idx) (h0 : a.val = (i 0).val) (h1 : b.val = (i 1).val) : ix2 a b = i := by
  funext x
  fin_cases x
  · exact Fin.ext h0
  · exact Fin.ext h1

/-- The whole result array is the reference's. -/
theorem final : (dats m 0 c).arrAt 5 (cfgs 0).N = REF (sl (cv (xp (m ((c : Thread nD τ).loc main_arg0))) (m ((c : Thread nD τ).loc main_arg1)) (m ((c : Thread nD τ).loc main_arg2)))) := by
  refine (dats m 0 c).arrAt_eq_of_covers 5 _ (by decide +kernel) fun t _ y => ?_
  blk_simp
  rw [after0_5]
  unfold outsAt0
  frame_out
  obtain ⟨r, d, rfl⟩ : ∃ (r : Fin 512) (d : Fin 512), y = (ix2 r d : S512x512.Idx) := ⟨y 0, y 1, by funext a; fin_cases a <;> rfl⟩
  have ht : t.val < 64 := t.isLt
  obtain ⟨k0, k1⟩ := crd t
  have T := fun (D : Fin 1024) (hD : D.val = 512 * (t.val % 2) + d.val) => tile (grid0.coords t) (X0_0 m c t) (X0_2 m c t) (X0_1 m c t) d (BitVec.ofNat 32 (grid0.coords t 1).val) r (iblk m c 4 t)
    (View.ld (iblk m c 3 t) (Rect.unit ![0, 0] ![1, 512] inb_S5x512_S1x512_0_0)) (View.ld (iblk m c 3 t) (Rect.unit ![1, 0] ![1, 512] inb_S5x512_S1x512_1_0))
    (View.ld (iblk m c 3 t) (Rect.unit ![2, 0] ![1, 512] inb_S5x512_S1x512_2_0)) (View.ld (iblk m c 3 t) (Rect.unit ![3, 0] ![1, 512] inb_S5x512_S1x512_3_0))
    (View.ld (iblk m c 3 t) (Rect.unit ![4, 0] ![1, 512] inb_S5x512_S1x512_4_0)) (xp (m ((c : Thread nD τ).loc main_arg0))) (m ((c : Thread nD τ).loc main_arg1)) (m ((c : Thread nD τ).loc main_arg2))
    (⟨(512 * (t.val / 2) + r.val) / 8192, by omega⟩ : Fin 2) (⟨(512 * (t.val / 2) + r.val) % 8192, by omega⟩ : Fin 8192) D
    (fun Q S h0 h1 h2 => rows_xp (grid0.coords t) (X0_0 m c t) (X0_2 m c t) (X0_1 m c t) (⟨t.val / 2, by omega⟩ : Fin 32) k0 Q d (m ((c : Thread nD τ).loc main_arg0)) (⟨t.val % 2, by omega⟩ : Fin 2)
      (fun g y R C hR hC => blkA m c t R d C (by rintro g'; exact g (by simp only [g'])) y hR hC) (fun y R C hR hC => blkX m c t R d C y hR hC) (fun g y R C hR hC => blkZ m c t R d C (by rintro g'; exact g (by simp only [g'])) y hR hC)
      h1 h2 _ S D (by simp only; omega) (by simp only at h0 ⊢; omega) hD)
    (blkB m c t d D hD)
    ((congrArg (iblk m c 3 t : Vec Ideal S5x512 .f32) (ix2_eq (a := (0 : Fin 5)) (b := d) _ rfl (by exact (Nat.zero_add _).symm.trans (congrArg (0 + ·) (Nat.one_mul d.val).symm))).symm).trans (blkW m c t d D 0 hD))
    ((congrArg (iblk m c 3 t : Vec Ideal S5x512 .f32) (ix2_eq (a := (1 : Fin 5)) (b := d) _ rfl (by exact (Nat.zero_add _).symm.trans (congrArg (0 + ·) (Nat.one_mul d.val).symm))).symm).trans (blkW m c t d D 1 hD))
    ((congrArg (iblk m c 3 t : Vec Ideal S5x512 .f32) (ix2_eq (a := (2 : Fin 5)) (b := d) _ rfl (by exact (Nat.zero_add _).symm.trans (congrArg (0 + ·) (Nat.one_mul d.val).symm))).symm).trans (blkW m c t d D 2 hD))
    ((congrArg (iblk m c 3 t : Vec Ideal S5x512 .f32) (ix2_eq (a := (3 : Fin 5)) (b := d) _ rfl (by exact (Nat.zero_add _).symm.trans (congrArg (0 + ·) (Nat.one_mul d.val).symm))).symm).trans (blkW m c t d D 3 hD))
    ((congrArg (iblk m c 3 t : Vec Ideal S5x512 .f32) (ix2_eq (a := (4 : Fin 5)) (b := d) _ rfl (by exact (Nat.zero_add _).symm.trans (congrArg (0 + ·) (Nat.one_mul d.val).symm))).symm).trans (blkW m c t d D 4 hD))
  rcases Nat.mod_two_eq_zero_or_one t.val with g | g
  · have e : (win0_5.blk t).view.emb (ix2 r d : S512x512.Idx) = ix2 (⟨512 * (t.val / 2) + r.val, by omega⟩ : Fin 16384) (⟨d.val, by omega⟩ : Fin 1024) := by
      blk_ext [idx t]
    refine Eq.trans ?_ (congrArg (REF (sl (cv (xp (m ((c : Thread nD τ).loc main_arg0))) (m ((c : Thread nD τ).loc main_arg1)) (m ((c : Thread nD τ).loc main_arg2))))) e.symm)
    rw [ref_lo]
    refine (T ⟨d.val, by omega⟩ (by simp only; omega)).trans ?_
    rw [k1.trans g]
    exact mul_one _
  · have e : (win0_5.blk t).view.emb (ix2 r d : S512x512.Idx) = ix2 (⟨512 * (t.val / 2) + r.val, by omega⟩ : Fin 16384) (⟨512 + d.val, by omega⟩ : Fin 1024) := by
      blk_ext [idx t]
    refine Eq.trans ?_ (congrArg (REF (sl (cv (xp (m ((c : Thread nD τ).loc main_arg0))) (m ((c : Thread nD τ).loc main_arg1)) (m ((c : Thread nD τ).loc main_arg2))))) e.symm)
    rw [ref_hi]
    refine (T ⟨512 + d.val, by omega⟩ (by simp only; omega)).trans ?_
    rw [k1.trans g]
    rfl

/-- The convolution's call computes the reference's convolution. -/
theorem algebraic : Cert.algebraic_ConvIdeal_ConvReferenceIdeal := by
  pair_intro
  · run_from Cert.ConvIdeal.Value.run_blocks m g
  · run_from Cert.ConvReferenceIdeal.Value.run m' g'
    obtain ⟨e0, e1, e2⟩ := hagree c
    rw [res_eq, e0, e1, e2]
    exact (final m c).symm

end Cert.Vals.Conv

end
-- ==== Proof.Experts.Ref.lean ====
module

public import proofs.«01_k».proof.Proof.Gen.ExpertsReferenceIdeal.Run
public import Idealize.ShloMosaic.Lib.Pointwise

@[expose] public section

set_option maxRecDepth 16384

noncomputable section

open Idealize.ShloMosaic Idealize.ShloMosaic.TcCoe Idealize.SL.Sem

namespace Cert.Vals.Experts

open Cert.ExpertsReferenceIdeal Cert.ExpertsReferenceIdeal.Gen

/-- The gates, by expert and token: over the heads, the product of the two factors where the second score reaches the threshold. -/
def gs (S2 C A B : FVec Ideal S8x128x16384 .f32) : FVec Ideal S16384x16384 .f32 :=
  shapeCast _ (Host.reduceAdd (select (cmpf .oge (broadcastInDim S8x128x128x16384 ![0, 1, 2, 3] bcast_S8x1x128x16384_S8x128x128x16384_0_1_2_3 (broadcastInDim S8x1x128x16384 ![0, 2, 3] bcast_S8x128x16384_S8x1x128x16384_0_2_3 S2)) (broadcastInDim S8x128x128x16384 ![0, 1, 2, 3] bcast_S8x128x1x16384_S8x128x128x16384_0_1_2_3 (broadcastInDim S8x128x1x16384 ![0, 1, 3] bcast_S8x128x16384_S8x128x1x16384_0_1_3 C)))
    (mulf (broadcastInDim S8x128x128x16384 ![0, 1, 2, 3] bcast_S8x128x1x16384_S8x128x128x16384_0_1_2_3 (broadcastInDim S8x128x1x16384 ![0, 1, 3] bcast_S8x128x16384_S8x128x1x16384_0_1_3 A)) (broadcastInDim S8x128x128x16384 ![0, 1, 2, 3] bcast_S8x1x128x16384_S8x128x128x16384_0_1_2_3 (broadcastInDim S8x1x128x16384 ![0, 2, 3] bcast_S8x128x16384_S8x1x128x16384_0_2_3 B)))
    (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384

/-- The products of the tokens with the experts' first vectors. -/
def pr (X : FVec Ideal S16384x1024 .f32) (U : FVec Ideal S1x16384x1024 .f32) : FVec Ideal S16384x16384 .f32 :=
  Host.dotGeneral dot_S16384x1024_S16384x1024_S16384x16384_1_1_0_0_n_n none X (shapeCast _ U shapeCasts_S1x16384x1024_S16384x1024)

/-- The gelu of a product. -/
def gl (P : FVec Ideal S16384x16384 .f32) : FVec Ideal S16384x16384 .f32 :=
  mulf (mulf (broadcastInDim S16384x16384 ![] bcast_S_S16384x16384 (constant S_ .f32 0x3F000000#32)) P) (Host.erfc (mulf (Host.negf P) (broadcastInDim S16384x16384 ![] bcast_S_S16384x16384 (constant S_ .f32 0x3F3504F3#32))))

/-- The experts' sum: their second vectors, weighted. -/
def ys (G L : FVec Ideal S16384x16384 .f32) (V : FVec Ideal S1x16384x1024 .f32) : FVec Ideal S16384x1024 .f32 :=
  Host.dotGeneral dot_S16384x16384_S16384x1024_S16384x1024_1_0_0_1_n_n none (mulf (transpose S16384x16384 [1, 0] G transposes_S16384x16384_S16384x16384_1_0) L) (shapeCast _ V shapeCasts_S1x16384x1024_S16384x1024)

/-- The residual stream plus the experts' sum. -/
def zz (X Y : FVec Ideal S16384x1024 .f32) : FVec Ideal S16384x1024 .f32 :=
  addf (mulf (broadcastInDim S16384x1024 ![] bcast_S_S16384x1024 (constant S_ .f32 0x3F9837F0#32)) X) Y

/-- A row's mean. -/
def mu2 (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- A row less its mean. -/
def ce2 (Z : FVec Ideal S16384x1024 .f32) : FVec Ideal S16384x1024 .f32 :=
  subf Z (broadcastInDim S16384x1024 ![0, 1] bcast_S16384x1_S16384x1024_0_1 (mu2 Z))

/-- A centred row over the root of its mean square. -/
def nm2 (C : FVec Ideal S16384x1024 .f32) : FVec Ideal S16384x1024 .f32 :=
  mulf C (broadcastInDim S16384x1024 ![0, 1] bcast_S16384x1_S16384x1024_0_1 (Host.rsqrt (addf (mu2 (mulf C C)) (broadcastInDim S16384x1 ![] bcast_S_S16384x1 (constant S_ .f32 0x3727C5AC#32)))))

/-- The norm's gain and bias, and the change of axes. -/
def gb (N : FVec Ideal S16384x1024 .f32) (G B : FVec Ideal S1x1024 .f32) : FVec Ideal S1024x16384 .f32 :=
  transpose S1024x16384 [1, 0] (addf (mulf N (broadcastInDim S16384x1024 ![0, 1] bcast_S1x1024_S16384x1024_0_1 (broadcastInDim S1x1024 ![1] bcast_S1024_S1x1024_1 (shapeCast _ G shapeCasts_S1x1024_S1024)))) (broadcastInDim S16384x1024 ![0, 1] bcast_S1x1024_S16384x1024_0_1 (broadcastInDim S1x1024 ![1] bcast_S1024_S1x1024_1 (shapeCast _ B shapeCasts_S1x1024_S1024)))) transposes_S16384x1024_S1024x16384_1_0

/-- The reference's result is this chain. -/
theorem res_eq (m : (ℓ : Loc nD τ sig) → Buf (Elt Ideal) ℓ) (c : Dev nD) :
    Value.res_main_v55 m c = gb (nm2 (ce2 (zz (m ((c.tc : Thread nD τ).loc main_arg0)) (ys (gs (m ((c.tc : Thread nD τ).loc main_arg1)) (m ((c.tc : Thread nD τ).loc main_arg2)) (m ((c.tc : Thread nD τ).loc main_arg3)) (m ((c.tc : Thread nD τ).loc main_arg4))) (gl (pr (m ((c.tc : Thread nD τ).loc main_arg0)) (m ((c.tc : Thread nD τ).loc main_arg5)))) (m ((c.tc : Thread nD τ).loc main_arg6)))))) (m ((c.tc : Thread nD τ).loc main_arg7)) (m ((c.tc : Thread nD τ).loc main_arg8)) := by
  unfold Value.res_main_v55 gb nm2 ce2 mu2 zz ys gl pr gs
  rfl

/-- One head's gate: the product of the factors where the second score reaches the threshold, else nothing. -/
def hg (s2 c a b : EReal) : EReal := a * Scalar.select (Ideal.cmp .oge s2 c) b 0

/-- The gelu of a number. -/
def ge (p : EReal) : EReal := FloatOps.ofBits (F := Ideal) .f32 0x3F000000#32 * p * (FloatOps.ofBits (F := Ideal) .f32 0x3F800000#32 + Ideal.erf (p * FloatOps.ofBits (F := Ideal) .f32 0x3F3504F3#32))

/-- A gate of the reference: the sum over the heads. -/
theorem gs_at (S2 C A B : FVec Ideal S8x128x16384 .f32) (e t : Fin 16384) :
    gs S2 C A B (ix2 e t) = ∑ h : Fin 8, hg (S2 (ix3 h ⟨e.val % 128, by omega⟩ t)) (C (ix3 h ⟨e.val / 128, by omega⟩ t)) (A (ix3 h ⟨e.val / 128, by omega⟩ t)) (B (ix3 h ⟨e.val % 128, by omega⟩ t)) := by
  pointwise [gs, hg]
  refine Finset.sum_congr rfl fun h _ => ?_
  split
  · rfl
  · rw [mul_zero]; exact Ideal.ofBits_zero_f32

/-- The reference's gelu is the same: its erfc of the negative is one plus erf. -/
theorem gl_at (P : FVec Ideal S16384x16384 .f32) (t e : Fin 16384) : gl P (ix2 t e) = ge (P (ix2 t e)) := by
  pointwise [gl, ge]
  rw [EReal.neg_mul, Ideal.erfc_neg]

/-- An entry of the reference's first product. -/
theorem pr_at (X : FVec Ideal S16384x1024 .f32) (U : FVec Ideal S1x16384x1024 .f32) (t e : Fin 16384) :
    pr X U (ix2 t e) = ∑ k : Fin 1024, U (ix3 0 e k) * X (ix2 t k) := by
  pointwise [pr]
  exact Finset.sum_congr rfl fun _ _ => mul_comm _ _

/-- An entry of the reference's second product. -/
theorem ys_at (G L : FVec Ideal S16384x16384 .f32) (V : FVec Ideal S1x16384x1024 .f32) (t : Fin 16384) (d : Fin 1024) :
    ys G L V (ix2 t d) = ∑ e : Fin 16384, V (ix3 0 e d) * (G (ix2 e t) * L (ix2 t e)) := by
  pointwise [ys]
  exact Finset.sum_congr rfl fun _ _ => mul_comm _ _

end Cert.Vals.Experts

end
-- ==== Proof.Experts.Tile.lean ====
module

public import proofs.«01_k».proof.Proof.Gen.ExpertsIdeal.Skeleton
public import proofs.«01_k».proof.Proof.Experts.Ref
public import Idealize.ShloMosaic.Lib.Pointwise

@[expose] public section

set_option maxRecDepth 16384

noncomputable section

open Idealize.ShloMosaic Idealize.ShloMosaic.TcCoe Idealize.SL.Sem

namespace Cert.Vals.Experts

open Cert.ExpertsIdeal Cert.ExpertsIdeal.Gen

/-- The gate of an expert's row and a token, over the eight heads' loads. -/
def rg (c e : Fin 8 → Vec Ideal S1x1x512 .f32) (s b : Fin 8 → Vec Ideal S1x128x512 .f32) (j : Fin 128) (t : Fin 512) : EReal :=
  ∑ h : Fin 8, hg (s h (ix3 0 j t)) (c h (ix3 0 0 t)) (e h (ix3 0 0 t)) (b h (ix3 0 j t))

/-- The first row of a step's gates. -/
def row0 (c e : Fin 8 → Vec Ideal S1x1x512 .f32) (s b : Fin 8 → Vec Ideal S1x128x512 .f32) : FVec Ideal S128x512 .f32 :=
  k0_pay13 (k0_pay11 (k0_pay9 (k0_pay8 (k0_pay5 (F := Ideal)) (k0_pay6 (e 0)) (k0_pay7 (c 0) (s 0) (b 0)) (c 1) (e 1) (s 1) (b 1) (c 2) (e 2) (s 2) (b 2)) (c 3) (e 3) (s 3) (b 3) (c 4) (e 4) (s 4) (b 4)) (k0_pay10 (c 5)) (e 5) (s 5) (b 5) (c 6) (e 6) (s 6) (b 6)) (k0_pay12 (c 7)) (e 7) (s 7) (b 7)

/-- It is the sum over the heads. -/
theorem row0_at (c e : Fin 8 → Vec Ideal S1x1x512 .f32) (s b : Fin 8 → Vec Ideal S1x128x512 .f32) (j : Fin 128) (t : Fin 512) : row0 c e s b (ix2 j t) = rg c e s b j t := by
  pointwise [row0, k0_pay13, k0_pay11, k0_pay9, k0_pay8, k0_pay5, k0_pay6, k0_pay7, k0_pay10, k0_pay12, rg, hg]
  simp only [Fin.sum_univ_eight, Ideal.ofBits_zero_f32, zero_add]

/-- The second row of a step's gates. -/
def row1 (c e : Fin 8 → Vec Ideal S1x1x512 .f32) (s b : Fin 8 → Vec Ideal S1x128x512 .f32) : FVec Ideal S128x512 .f32 :=
  k0_pay26 (k0_pay23 (k0_pay19 (k0_pay16 (k0_pay14 (c 0) (e 0) (s 0) (b 0)) (k0_pay15 (c 1)) (e 1) (s 1) (b 1) (c 2) (e 2) (s 2) (b 2)) (k0_pay17 (c 3)) (k0_pay18 (e 3)) (s 3) (b 3) (c 4) (e 4) (s 4) (b 4)) (k0_pay20 (c 5)) (k0_pay21 (e 5)) (k0_pay22 (s 5)) (b 5) (c 6) (e 6) (s 6) (b 6)) (k0_pay24 (e 7)) (k0_pay25 (c 7) (s 7)) (b 7)

/-- It is the sum over the heads. -/
theorem row1_at (c e : Fin 8 → Vec Ideal S1x1x512 .f32) (s b : Fin 8 → Vec Ideal S1x128x512 .f32) (j : Fin 128) (t : Fin 512) : row1 c e s b (ix2 j t) = rg c e s b j t := by
  pointwise [row1, k0_pay26, k0_pay23, k0_pay19, k0_pay16, k0_pay14, k0_pay15, k0_pay17, k0_pay18, k0_pay20, k0_pay21, k0_pay22, k0_pay24, k0_pay25, rg, hg]
  simp only [Fin.sum_univ_eight, Ideal.ofBits_zero_f32, zero_add]

/-- The third row of a step's gates. -/
def row2 (c e : Fin 8 → Vec Ideal S1x1x512 .f32) (s b : Fin 8 → Vec Ideal S1x128x512 .f32) : FVec Ideal S128x512 .f32 :=
  k0_pay36 (k0_pay33 (k0_pay30 (k0_pay27 (c 0) (e 0) (s 0) (b 0)) (k0_pay28 (e 1)) (k0_pay29 (c 1) (s 1)) (b 1) (c 2) (e 2) (s 2) (b 2)) (k0_pay31 (e 3)) (k0_pay32 (c 3) (s 3)) (b 3) (c 4) (e 4) (s 4) (b 4)) (k0_pay34 (e 5)) (k0_pay35 (c 5) (s 5) (b 5)) (c 6) (e 6) (s 6) (b 6) (c 7) (e 7) (s 7) (b 7)

/-- It is the sum over the heads. -/
theorem row2_at (c e : Fin 8 → Vec Ideal S1x1x512 .f32) (s b : Fin 8 → Vec Ideal S1x128x512 .f32) (j : Fin 128) (t : Fin 512) : row2 c e s b (ix2 j t) = rg c e s b j t := by
  pointwise [row2, k0_pay36, k0_pay33, k0_pay30, k0_pay27, k0_pay28, k0_pay29, k0_pay31, k0_pay32, k0_pay34, k0_pay35, rg, hg]
  simp only [Fin.sum_univ_eight, Ideal.ofBits_zero_f32, zero_add]

/-- A step's weights: the gates of its four rows times the activations. -/
def wg (a : FVec Ideal S512x512 .f32) (r0 r1 r2 : FVec Ideal S128x512 .f32) (c e : Fin 8 → Vec Ideal S1x1x512 .f32) (s b : Fin 8 → Vec Ideal S1x128x512 .f32) : FVec Ideal S512x512 .bf16 :=
  k0_pay42 a r0 r1 r2 (k0_pay40 (k0_pay39 (k0_pay37 (c 0) (e 0) (s 0) (b 0)) (k0_pay38 (c 1) (e 1) (s 1) (b 1)) (c 2) (e 2) (s 2) (b 2) (c 3) (e 3) (s 3) (b 3)) (c 4) (e 4) (s 4) (b 4) (c 5) (e 5) (s 5) (b 5)) (k0_pay41 (c 6)) (e 6) (s 6) (b 6) (c 7) (e 7) (s 7) (b 7)

/-- An entry of the weights in row 1 of the four. -/
theorem wg0_at (a : FVec Ideal S512x512 .f32) (r0 r1 r2 : FVec Ideal S128x512 .f32) (c e : Fin 8 → Vec Ideal S1x1x512 .f32) (s b : Fin 8 → Vec Ideal S1x128x512 .f32) (j : Fin 128) (t : Fin 512) :
    wg a r0 r1 r2 c e s b (ix2 ⟨0 + j.val, by omega⟩ t) = r0 (ix2 j t) * a (ix2 ⟨0 + j.val, by omega⟩ t) := by
  have hj := j.isLt
  pointwise [wg, k0_pay42, k0_pay40, k0_pay39, k0_pay37, k0_pay38, k0_pay41, rg, hg]

/-- An entry of the weights in row 2 of the four. -/
theorem wg1_at (a : FVec Ideal S512x512 .f32) (r0 r1 r2 : FVec Ideal S128x512 .f32) (c e : Fin 8 → Vec Ideal S1x1x512 .f32) (s b : Fin 8 → Vec Ideal S1x128x512 .f32) (j : Fin 128) (t : Fin 512) :
    wg a r0 r1 r2 c e s b (ix2 ⟨128 + j.val, by omega⟩ t) = r1 (ix2 j t) * a (ix2 ⟨128 + j.val, by omega⟩ t) := by
  have hj := j.isLt
  pointwise [wg, k0_pay42, k0_pay40, k0_pay39, k0_pay37, k0_pay38, k0_pay41, rg, hg]

/-- An entry of the weights in row 3 of the four. -/
theorem wg2_at (a : FVec Ideal S512x512 .f32) (r0 r1 r2 : FVec Ideal S128x512 .f32) (c e : Fin 8 → Vec Ideal S1x1x512 .f32) (s b : Fin 8 → Vec Ideal S1x128x512 .f32) (j : Fin 128) (t : Fin 512) :
    wg a r0 r1 r2 c e s b (ix2 ⟨256 + j.val, by omega⟩ t) = r2 (ix2 j t) * a (ix2 ⟨256 + j.val, by omega⟩ t) := by
  have hj := j.isLt
  pointwise [wg, k0_pay42, k0_pay40, k0_pay39, k0_pay37, k0_pay38, k0_pay41, rg, hg]
  have q : (⟨256 + j.val - 128 - 128, by omega⟩ : Fin 128) = j := by ext; show 256 + j.val - 128 - 128 = j.val; omega
  rw [dif_neg (by omega), dif_neg (by omega), dif_pos (by omega), q]

/-- An entry of the weights in row 4 of the four. -/
theorem wg3_at (a : FVec Ideal S512x512 .f32) (r0 r1 r2 : FVec Ideal S128x512 .f32) (c e : Fin 8 → Vec Ideal S1x1x512 .f32) (s b : Fin 8 → Vec Ideal S1x128x512 .f32) (j : Fin 128) (t : Fin 512) :
    wg a r0 r1 r2 c e s b (ix2 ⟨384 + j.val, by omega⟩ t) = rg c e s b j t * a (ix2 ⟨384 + j.val, by omega⟩ t) := by
  have hj := j.isLt
  pointwise [wg, k0_pay42, k0_pay40, k0_pay39, k0_pay37, k0_pay38, k0_pay41, rg, hg]
  have q : (⟨384 + j.val - 128 - 128 - 128, by omega⟩ : Fin 128) = j := by ext; show 384 + j.val - 128 - 128 - 128 = j.val; omega
  rw [dif_neg (by omega), dif_neg (by omega), dif_neg (by omega)]
  simp only [q, Fin.sum_univ_eight]

/-- The activations of a step: the gelu of the products. -/
theorem act_at (u : Vec Ideal S512x1024 .bf16) (x : Vec Ideal S1024x512 .bf16) (e t : Fin 512) :
    k0_pay4 u x (ix2 e t) = ge (∑ k : Fin 1024, u (ix2 e k) * x (ix2 k t)) := by
  pointwise [k0_pay4, ge]
  rfl

/-- A step adds its experts' weighted vectors. -/
theorem step_at (w : FVec Ideal S512x512 .bf16) (acc : Vec Ideal S1024x512 .f32) (v : Vec Ideal S1024x512 .bf16) (d : Fin 1024) (t : Fin 512) :
    k0_pay1 w acc (k0_pay43 v) (constant S1024x512 .f32 0x00000000#32) (ix2 d t) = acc (ix2 d t) + ∑ e : Fin 512, v (ix2 d e) * w (ix2 e t) := by
  pointwise [k0_pay1, k0_pay43]

/-- The scratch starts at zero. -/
theorem zero_at (d : Fin 1024) (t : Fin 512) : k0_pay3 (F := Ideal) (ix2 d t) = (0 : EReal) := by
  pointwise [k0_pay3]

/-- The last norm, from blocks that hold a token's entries. -/
theorem last_at (xf acc : Vec Ideal S1024x512 .f32) (lg lb : Vec Ideal S1024x1 .f32)
    (X Y : FVec Ideal Cert.ExpertsReferenceIdeal.S16384x1024 .f32) (G B : FVec Ideal Cert.ExpertsReferenceIdeal.S1x1024 .f32) (t : Fin 512) (T : Fin 16384)
    (hx : ∀ d : Fin 1024, xf (ix2 d t) = X (ix2 T d)) (hy : ∀ d : Fin 1024, acc (ix2 d t) = Y (ix2 T d))
    (hl : ∀ d : Fin 1024, lg (ix2 d 0) = G (ix2 0 d)) (hb : ∀ d : Fin 1024, lb (ix2 d 0) = B (ix2 0 d)) (d : Fin 1024) :
    k0_pay2 xf acc lg lb (ix2 d t) = gb (nm2 (ce2 (zz X Y))) G B (ix2 d T) := by
  pointwise [k0_pay2, gb, nm2, ce2, mu2, zz]
  simp only [hx, hy, hl, hb]

end Cert.Vals.Experts

end
-- ==== Proof.Experts.Weight.lean ====
module

public import proofs.«01_k».proof.Proof.Experts.Tile
public import Idealize.ShloMosaic.Lib.Pointwise

@[expose] public section

set_option maxRecDepth 16384

noncomputable section

open Idealize.ShloMosaic Idealize.ShloMosaic.TcCoe Idealize.SL.Sem

namespace Cert.Vals.Experts

open Cert.ExpertsIdeal Cert.ExpertsIdeal.Gen

/-- A head's load of one row of a table. -/
def ldR (s : Fin 32) (r : Fin 4) (x : Vec Ideal S8x128x512 .f32) (h : Fin 8) : Vec Ideal S1x1x512 .f32 :=
  fun y => x (ix3 h ⟨4 * s.val + r.val, by omega⟩ (y 2))

/-- A head's load of a whole table. -/
def ldH (x : Vec Ideal S8x128x512 .f32) (h : Fin 8) : Vec Ideal S1x128x512 .f32 :=
  fun y => x (ix3 h (y 1) (y 2))

/-- The weights a step computes from its blocks. -/
def wgt (s : Fin 32) (x0 : Vec Ideal S1024x512 .bf16) (x2 : Vec Ideal S512x1024 .bf16) (x4 x5 x6 x7 : Vec Ideal S8x128x512 .f32) : FVec Ideal S512x512 .bf16 :=
  wg (k0_pay4 x2 x0) (row0 (ldR s 0 x5) (ldR s 0 x6) (ldH x4) (ldH x7)) (row1 (ldR s 1 x5) (ldR s 1 x6) (ldH x4) (ldH x7)) (row2 (ldR s 2 x5) (ldR s 2 x6) (ldH x4) (ldH x7))
    (ldR s 3 x5) (ldR s 3 x6) (ldH x4) (ldH x7)

variable (s : Fin 32) (x0 : Vec Ideal S1024x512 .bf16) (x2 : Vec Ideal S512x1024 .bf16) (x4 x5 x6 x7 : Vec Ideal S8x128x512 .f32)
  (X : FVec Ideal Cert.ExpertsReferenceIdeal.S16384x1024 .f32) (U : FVec Ideal Cert.ExpertsReferenceIdeal.S1x16384x1024 .f32) (S2 C A B : FVec Ideal Cert.ExpertsReferenceIdeal.S8x128x16384 .f32)
  (e r : Fin 512) (E T : Fin 16384) (hE : E.val = 512 * s.val + e.val)
  (h0 : ∀ k : Fin 1024, x0 (ix2 k r) = X (ix2 T k)) (h2 : ∀ k : Fin 1024, x2 (ix2 e k) = U (ix3 0 E k))
  (h4 : ∀ (h : Fin 8) (j : Fin 128), x4 (ix3 h j r) = S2 (ix3 h j T)) (h5 : ∀ (h : Fin 8) (j : Fin 128), x5 (ix3 h j r) = C (ix3 h j T))
  (h6 : ∀ (h : Fin 8) (j : Fin 128), x6 (ix3 h j r) = A (ix3 h j T)) (h7 : ∀ (h : Fin 8) (j : Fin 128), x7 (ix3 h j r) = B (ix3 h j T))

include h0 h2 in
/-- An activation is the reference's. -/
theorem act_eq : k0_pay4 x2 x0 (ix2 e r) = gl (pr X U) (ix2 T E) := by
  rw [act_at, gl_at, pr_at]
  simp only [h0, h2]

include hE h4 h5 h6 h7 in
/-- A gate is the reference's: expert E is row E / 128 of the first table and row E % 128 of the second. -/
theorem gate_eq (q : Fin 4) (j : Fin 128) (he : e.val = 128 * q.val + j.val) : rg (ldR s q x5) (ldR s q x6) (ldH x4) (ldH x7) j r = gs S2 C A B (ix2 E T) := by
  have e1 : (⟨E.val / 128, by omega⟩ : Fin 128) = ⟨4 * s.val + q.val, by omega⟩ := by ext; show E.val / 128 = 4 * s.val + q.val; omega
  have e2 : (⟨E.val % 128, by omega⟩ : Fin 128) = j := by ext; show E.val % 128 = j.val; omega
  rw [gs_at, e1, e2]
  unfold rg
  refine Finset.sum_congr rfl fun h _ => ?_
  rw [← h4, ← h5, ← h6, ← h7]
  rfl

include hE h0 h2 h4 h5 h6 h7 in
/-- A weight is the reference's. -/
theorem wgt_eq : wgt s x0 x2 x4 x5 x6 x7 (ix2 e r) = gs S2 C A B (ix2 E T) * gl (pr X U) (ix2 T E) := by
  have ha := act_eq x0 x2 X U e r E T h0 h2
  have hg := gate_eq s x4 x5 x6 x7 S2 C A B e r E T hE h4 h5 h6 h7
  have he := e.isLt
  unfold wgt
  have hq : e.val / 128 < 4 := by omega
  obtain hc | hc | hc | hc : e.val / 128 = 0 ∨ e.val / 128 = 1 ∨ e.val / 128 = 2 ∨ e.val / 128 = 3 := by omega
  · have q : e = ⟨0 + (e.val - 0), by omega⟩ := by ext; show e.val = 0 + (e.val - 0); omega
    have w := wg0_at (k0_pay4 x2 x0) (row0 (ldR s 0 x5) (ldR s 0 x6) (ldH x4) (ldH x7)) (row1 (ldR s 1 x5) (ldR s 1 x6) (ldH x4) (ldH x7)) (row2 (ldR s 2 x5) (ldR s 2 x6) (ldH x4) (ldH x7)) (ldR s 3 x5) (ldR s 3 x6) (ldH x4) (ldH x7) ⟨e.val - 0, by omega⟩ r
    rw [← q] at w
    rw [w, ha, row0_at, hg 0 ⟨e.val - 0, by omega⟩ (by show e.val = 128 * 0 + (e.val - 0); omega)]
  · have q : e = ⟨128 + (e.val - 128), by omega⟩ := by ext; show e.val = 128 + (e.val - 128); omega
    have w := wg1_at (k0_pay4 x2 x0) (row0 (ldR s 0 x5) (ldR s 0 x6) (ldH x4) (ldH x7)) (row1 (ldR s 1 x5) (ldR s 1 x6) (ldH x4) (ldH x7)) (row2 (ldR s 2 x5) (ldR s 2 x6) (ldH x4) (ldH x7)) (ldR s 3 x5) (ldR s 3 x6) (ldH x4) (ldH x7) ⟨e.val - 128, by omega⟩ r
    rw [← q] at w
    rw [w, ha, row1_at, hg 1 ⟨e.val - 128, by omega⟩ (by show e.val = 128 * 1 + (e.val - 128); omega)]
  · have q : e = ⟨256 + (e.val - 256), by omega⟩ := by ext; show e.val = 256 + (e.val - 256); omega
    have w := wg2_at (k0_pay4 x2 x0) (row0 (ldR s 0 x5) (ldR s 0 x6) (ldH x4) (ldH x7)) (row1 (ldR s 1 x5) (ldR s 1 x6) (ldH x4) (ldH x7)) (row2 (ldR s 2 x5) (ldR s 2 x6) (ldH x4) (ldH x7)) (ldR s 3 x5) (ldR s 3 x6) (ldH x4) (ldH x7) ⟨e.val - 256, by omega⟩ r
    rw [← q] at w
    rw [w, ha, row2_at, hg 2 ⟨e.val - 256, by omega⟩ (by show e.val = 128 * 2 + (e.val - 256); omega)]
  · have q : e = ⟨384 + (e.val - 384), by omega⟩ := by ext; show e.val = 384 + (e.val - 384); omega
    have w := wg3_at (k0_pay4 x2 x0) (row0 (ldR s 0 x5) (ldR s 0 x6) (ldH x4) (ldH x7)) (row1 (ldR s 1 x5) (ldR s 1 x6) (ldH x4) (ldH x7)) (row2 (ldR s 2 x5) (ldR s 2 x6) (ldH x4) (ldH x7)) (ldR s 3 x5) (ldR s 3 x6) (ldH x4) (ldH x7) ⟨e.val - 384, by omega⟩ r
    rw [← q] at w
    rw [w, ha, hg 3 ⟨e.val - 384, by omega⟩ (by show e.val = 128 * 3 + (e.val - 384); omega)]

end Cert.Vals.Experts

end
-- ==== Proof.Experts.Body.lean ====
module

public import proofs.«01_k».proof.Proof.Gen.ExpertsIdeal.Value
public import proofs.«01_k».proof.Proof.Experts.Weight
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Experts

open Cert.ExpertsIdeal Cert.ExpertsIdeal.Gen

/-- The second grid coordinate of a point: the step. -/
def st (i : grid0.Coords) : Fin 32 := ⟨(i 1).val, (i 1).isLt⟩

/-- A load of one row. -/
theorem ldRow (x : Vec Ideal S8x128x512 .f32) (off : Fin 3 → ℕ) (H) (s : Fin 32) (r : Fin 4) (h : Fin 8) (ho : off = ![h.val, 4 * s.val + r.val, 0]) :
    View.ld x (Rect.unit (s := S8x128x512) off ![1, 1, 512] H) = ldR s r x h := by
  subst ho
  funext y
  refine congrArg x ?_
  funext a
  refine Fin.ext ?_
  fin_cases a
  · rw [Rect.idx_unit_val]; show h.val + (y 0).val = h.val
    have : (y 0).val < 1 := (y 0).isLt
    omega
  · rw [Rect.idx_unit_val]; show 4 * s.val + r.val + (y 1).val = 4 * s.val + r.val
    have : (y 1).val < 1 := (y 1).isLt
    omega
  · rw [Rect.idx_unit_val]; show 0 + (y 2).val = (y 2).val
    omega

/-- A load of a head's whole table. -/
theorem ldTab (x : Vec Ideal S8x128x512 .f32) (off : Fin 3 → ℕ) (H) (h : Fin 8) (ho : off = ![h.val, 0, 0]) :
    View.ld x (Rect.unit (s := S8x128x512) off ![1, 128, 512] H) = ldH x h := by
  subst ho
  funext y
  refine congrArg x ?_
  funext a
  refine Fin.ext ?_
  fin_cases a
  · rw [Rect.idx_unit_val]; show h.val + (y 0).val = h.val
    have : (y 0).val < 1 := (y 0).isLt
    omega
  · rw [Rect.idx_unit_val]; show 0 + (y 1).val = (y 1).val
    omega
  · rw [Rect.idx_unit_val]; show 0 + (y 2).val = (y 2).val
    omega

/-- Head 0's loads. -/
theorem ldT0 (x : Vec Ideal S8x128x512 .f32) (H) : View.ld x (Rect.unit (s := S8x128x512) ![0, 0, 0] ![1, 128, 512] H) = ldH x 0 :=
  ldTab x _ H 0 rfl

/-- Head 0's loads of row 0 of the step's four. -/
theorem ldR0_0 (i : grid0.Coords) (x : Vec Ideal S8x128x512 .f32) (H) : View.ld x (Rect.unit (s := S8x128x512) (k0_off1 i 0#32) ![1, 1, 512] H) = ldR (st i) 0 x 0 :=
  ldRow x _ H (st i) 0 0 (k0_off1_eq i 0)

/-- Head 0's loads of row 1 of the step's four. -/
theorem ldR0_1 (i : grid0.Coords) (x : Vec Ideal S8x128x512 .f32) (H) : View.ld x (Rect.unit (s := S8x128x512) (k0_off1 i 1#32) ![1, 1, 512] H) = ldR (st i) 1 x 0 :=
  ldRow x _ H (st i) 1 0 (k0_off1_eq i 1)

/-- Head 0's loads of row 2 of the step's four. -/
theorem ldR0_2 (i : grid0.Coords) (x : Vec Ideal S8x128x512 .f32) (H) : View.ld x (Rect.unit (s := S8x128x512) (k0_off1 i 2#32) ![1, 1, 512] H) = ldR (st i) 2 x 0 :=
  ldRow x _ H (st i) 2 0 (k0_off1_eq i 2)

/-- Head 0's loads of row 3 of the step's four. -/
theorem ldR0_3 (i : grid0.Coords) (x : Vec Ideal S8x128x512 .f32) (H) : View.ld x (Rect.unit (s := S8x128x512) (k0_off1 i 3#32) ![1, 1, 512] H) = ldR (st i) 3 x 0 :=
  ldRow x _ H (st i) 3 0 (k0_off1_eq i 3)

/-- Head 1's loads. -/
theorem ldT1 (x : Vec Ideal S8x128x512 .f32) (H) : View.ld x (Rect.unit (s := S8x128x512) ![1, 0, 0] ![1, 128, 512] H) = ldH x 1 :=
  ldTab x _ H 1 rfl

/-- Head 1's loads of row 0 of the step's four. -/
theorem ldR1_0 (i : grid0.Coords) (x : Vec Ideal S8x128x512 .f32) (H) : View.ld x (Rect.unit (s := S8x128x512) (k0_off2 i 0#32) ![1, 1, 512] H) = ldR (st i) 0 x 1 :=
  ldRow x _ H (st i) 0 1 (k0_off2_eq i 0)

/-- Head 1's loads of row 1 of the step's four. -/
theorem ldR1_1 (i : grid0.Coords) (x : Vec Ideal S8x128x512 .f32) (H) : View.ld x (Rect.unit (s := S8x128x512) (k0_off2 i 1#32) ![1, 1, 512] H) = ldR (st i) 1 x 1 :=
  ldRow x _ H (st i) 1 1 (k0_off2_eq i 1)

/-- Head 1's loads of row 2 of the step's four. -/
theorem ldR1_2 (i : grid0.Coords) (x : Vec Ideal S8x128x512 .f32) (H) : View.ld x (Rect.unit (s := S8x128x512) (k0_off2 i 2#32) ![1, 1, 512] H) = ldR (st i) 2 x 1 :=
  ldRow x _ H (st i) 2 1 (k0_off2_eq i 2)

/-- Head 1's loads of row 3 of the step's four. -/
theorem ldR1_3 (i : grid0.Coords) (x : Vec Ideal S8x128x512 .f32) (H) : View.ld x (Rect.unit (s := S8x128x512) (k0_off2 i 3#32) ![1, 1, 512] H) = ldR (st i) 3 x 1 :=
  ldRow x _ H (st i) 3 1 (k0_off2_eq i 3)

/-- Head 2's loads. -/
theorem ldT2 (x : Vec Ideal S8x128x512 .f32) (H) : View.ld x (Rect.unit (s := S8x128x512) ![2, 0, 0] ![1, 128, 512] H) = ldH x 2 :=
  ldTab x _ H 2 rfl

/-- Head 2's loads of row 0 of the step's four. -/
theorem ldR2_0 (i : grid0.Coords) (x : Vec Ideal S8x128x512 .f32) (H) : View.ld x (Rect.unit (s := S8x128x512) (k0_off3 i 0#32) ![1, 1, 512] H) = ldR (st i) 0 x 2 :=
  ldRow x _ H (st i) 0 2 (k0_off3_eq i 0)

/-- Head 2's loads of row 1 of the step's four. -/
theorem ldR2_1 (i : grid0.Coords) (x : Vec Ideal S8x128x512 .f32) (H) : View.ld x (Rect.unit (s := S8x128x512) (k0_off3 i 1#32) ![1, 1, 512] H) = ldR (st i) 1 x 2 :=
  ldRow x _ H (st i) 1 2 (k0_off3_eq i 1)

/-- Head 2's loads of row 2 of the step's four. -/
theorem ldR2_2 (i : grid0.Coords) (x : Vec Ideal S8x128x512 .f32) (H) : View.ld x (Rect.unit (s := S8x128x512) (k0_off3 i 2#32) ![1, 1, 512] H) = ldR (st i) 2 x 2 :=
  ldRow x _ H (st i) 2 2 (k0_off3_eq i 2)

/-- Head 2's loads of row 3 of the step's four. -/
theorem ldR2_3 (i : grid0.Coords) (x : Vec Ideal S8x128x512 .f32) (H) : View.ld x (Rect.unit (s := S8x128x512) (k0_off3 i 3#32) ![1, 1, 512] H) = ldR (st i) 3 x 2 :=
  ldRow x _ H (st i) 3 2 (k0_off3_eq i 3)

/-- Head 3's loads. -/
theorem ldT3 (x : Vec Ideal S8x128x512 .f32) (H) : View.ld x (Rect.unit (s := S8x128x512) ![3, 0, 0] ![1, 128, 512] H) = ldH x 3 :=
  ldTab x _ H 3 rfl

/-- Head 3's loads of row 0 of the step's four. -/
theorem ldR3_0 (i : grid0.Coords) (x : Vec Ideal S8x128x512 .f32) (H) : View.ld x (Rect.unit (s := S8x128x512) (k0_off4 i 0#32) ![1, 1, 512] H) = ldR (st i) 0 x 3 :=
  ldRow x _ H (st i) 0 3 (k0_off4_eq i 0)

/-- Head 3's loads of row 1 of the step's four. -/
theorem ldR3_1 (i : grid0.Coords) (x : Vec Ideal S8x128x512 .f32) (H) : View.ld x (Rect.unit (s := S8x128x512) (k0_off4 i 1#32) ![1, 1, 512] H) = ldR (st i) 1 x 3 :=
  ldRow x _ H (st i) 1 3 (k0_off4_eq i 1)

/-- Head 3's loads of row 2 of the step's four. -/
theorem ldR3_2 (i : grid0.Coords) (x : Vec Ideal S8x128x512 .f32) (H) : View.ld x (Rect.unit (s := S8x128x512) (k0_off4 i 2#32) ![1, 1, 512] H) = ldR (st i) 2 x 3 :=
  ldRow x _ H (st i) 2 3 (k0_off4_eq i 2)

/-- Head 3's loads of row 3 of the step's four. -/
theorem ldR3_3 (i : grid0.Coords) (x : Vec Ideal S8x128x512 .f32) (H) : View.ld x (Rect.unit (s := S8x128x512) (k0_off4 i 3#32) ![1, 1, 512] H) = ldR (st i) 3 x 3 :=
  ldRow x _ H (st i) 3 3 (k0_off4_eq i 3)

/-- Head 4's loads. -/
theorem ldT4 (x : Vec Ideal S8x128x512 .f32) (H) : View.ld x (Rect.unit (s := S8x128x512) ![4, 0, 0] ![1, 128, 512] H) = ldH x 4 :=
  ldTab x _ H 4 rfl

/-- Head 4's loads of row 0 of the step's four. -/
theorem ldR4_0 (i : grid0.Coords) (x : Vec Ideal S8x128x512 .f32) (H) : View.ld x (Rect.unit (s := S8x128x512) (k0_off5 i 0#32) ![1, 1, 512] H) = ldR (st i) 0 x 4 :=
  ldRow x _ H (st i) 0 4 (k0_off5_eq i 0)

/-- Head 4's loads of row 1 of the step's four. -/
theorem ldR4_1 (i : grid0.Coords) (x : Vec Ideal S8x128x512 .f32) (H) : View.ld x (Rect.unit (s := S8x128x512) (k0_off5 i 1#32) ![1, 1, 512] H) = ldR (st i) 1 x 4 :=
  ldRow x _ H (st i) 1 4 (k0_off5_eq i 1)

/-- Head 4's loads of row 2 of the step's four. -/
theorem ldR4_2 (i : grid0.Coords) (x : Vec Ideal S8x128x512 .f32) (H) : View.ld x (Rect.unit (s := S8x128x512) (k0_off5 i 2#32) ![1, 1, 512] H) = ldR (st i) 2 x 4 :=
  ldRow x _ H (st i) 2 4 (k0_off5_eq i 2)

/-- Head 4's loads of row 3 of the step's four. -/
theorem ldR4_3 (i : grid0.Coords) (x : Vec Ideal S8x128x512 .f32) (H) : View.ld x (Rect.unit (s := S8x128x512) (k0_off5 i 3#32) ![1, 1, 512] H) = ldR (st i) 3 x 4 :=
  ldRow x _ H (st i) 3 4 (k0_off5_eq i 3)

/-- Head 5's loads. -/
theorem ldT5 (x : Vec Ideal S8x128x512 .f32) (H) : View.ld x (Rect.unit (s := S8x128x512) ![5, 0, 0] ![1, 128, 512] H) = ldH x 5 :=
  ldTab x _ H 5 rfl

/-- Head 5's loads of row 0 of the step's four. -/
theorem ldR5_0 (i : grid0.Coords) (x : Vec Ideal S8x128x512 .f32) (H) : View.ld x (Rect.unit (s := S8x128x512) (k0_off6 i 0#32) ![1, 1, 512] H) = ldR (st i) 0 x 5 :=
  ldRow x _ H (st i) 0 5 (k0_off6_eq i 0)

/-- Head 5's loads of row 1 of the step's four. -/
theorem ldR5_1 (i : grid0.Coords) (x : Vec Ideal S8x128x512 .f32) (H) : View.ld x (Rect.unit (s := S8x128x512) (k0_off6 i 1#32) ![1, 1, 512] H) = ldR (st i) 1 x 5 :=
  ldRow x _ H (st i) 1 5 (k0_off6_eq i 1)

/-- Head 5's loads of row 2 of the step's four. -/
theorem ldR5_2 (i : grid0.Coords) (x : Vec Ideal S8x128x512 .f32) (H) : View.ld x (Rect.unit (s := S8x128x512) (k0_off6 i 2#32) ![1, 1, 512] H) = ldR (st i) 2 x 5 :=
  ldRow x _ H (st i) 2 5 (k0_off6_eq i 2)

/-- Head 5's loads of row 3 of the step's four. -/
theorem ldR5_3 (i : grid0.Coords) (x : Vec Ideal S8x128x512 .f32) (H) : View.ld x (Rect.unit (s := S8x128x512) (k0_off6 i 3#32) ![1, 1, 512] H) = ldR (st i) 3 x 5 :=
  ldRow x _ H (st i) 3 5 (k0_off6_eq i 3)

/-- Head 6's loads. -/
theorem ldT6 (x : Vec Ideal S8x128x512 .f32) (H) : View.ld x (Rect.unit (s := S8x128x512) ![6, 0, 0] ![1, 128, 512] H) = ldH x 6 :=
  ldTab x _ H 6 rfl

/-- Head 6's loads of row 0 of the step's four. -/
theorem ldR6_0 (i : grid0.Coords) (x : Vec Ideal S8x128x512 .f32) (H) : View.ld x (Rect.unit (s := S8x128x512) (k0_off7 i 0#32) ![1, 1, 512] H) = ldR (st i) 0 x 6 :=
  ldRow x _ H (st i) 0 6 (k0_off7_eq i 0)

/-- Head 6's loads of row 1 of the step's four. -/
theorem ldR6_1 (i : grid0.Coords) (x : Vec Ideal S8x128x512 .f32) (H) : View.ld x (Rect.unit (s := S8x128x512) (k0_off7 i 1#32) ![1, 1, 512] H) = ldR (st i) 1 x 6 :=
  ldRow x _ H (st i) 1 6 (k0_off7_eq i 1)

/-- Head 6's loads of row 2 of the step's four. -/
theorem ldR6_2 (i : grid0.Coords) (x : Vec Ideal S8x128x512 .f32) (H) : View.ld x (Rect.unit (s := S8x128x512) (k0_off7 i 2#32) ![1, 1, 512] H) = ldR (st i) 2 x 6 :=
  ldRow x _ H (st i) 2 6 (k0_off7_eq i 2)

/-- Head 6's loads of row 3 of the step's four. -/
theorem ldR6_3 (i : grid0.Coords) (x : Vec Ideal S8x128x512 .f32) (H) : View.ld x (Rect.unit (s := S8x128x512) (k0_off7 i 3#32) ![1, 1, 512] H) = ldR (st i) 3 x 6 :=
  ldRow x _ H (st i) 3 6 (k0_off7_eq i 3)

/-- Head 7's loads. -/
theorem ldT7 (x : Vec Ideal S8x128x512 .f32) (H) : View.ld x (Rect.unit (s := S8x128x512) ![7, 0, 0] ![1, 128, 512] H) = ldH x 7 :=
  ldTab x _ H 7 rfl

/-- Head 7's loads of row 0 of the step's four. -/
theorem ldR7_0 (i : grid0.Coords) (x : Vec Ideal S8x128x512 .f32) (H) : View.ld x (Rect.unit (s := S8x128x512) (k0_off8 i 0#32) ![1, 1, 512] H) = ldR (st i) 0 x 7 :=
  ldRow x _ H (st i) 0 7 (k0_off8_eq i 0)

/-- Head 7's loads of row 1 of the step's four. -/
theorem ldR7_1 (i : grid0.Coords) (x : Vec Ideal S8x128x512 .f32) (H) : View.ld x (Rect.unit (s := S8x128x512) (k0_off8 i 1#32) ![1, 1, 512] H) = ldR (st i) 1 x 7 :=
  ldRow x _ H (st i) 1 7 (k0_off8_eq i 1)

/-- Head 7's loads of row 2 of the step's four. -/
theorem ldR7_2 (i : grid0.Coords) (x : Vec Ideal S8x128x512 .f32) (H) : View.ld x (Rect.unit (s := S8x128x512) (k0_off8 i 2#32) ![1, 1, 512] H) = ldR (st i) 2 x 7 :=
  ldRow x _ H (st i) 2 7 (k0_off8_eq i 2)

/-- Head 7's loads of row 3 of the step's four. -/
theorem ldR7_3 (i : grid0.Coords) (x : Vec Ideal S8x128x512 .f32) (H) : View.ld x (Rect.unit (s := S8x128x512) (k0_off8 i 3#32) ![1, 1, 512] H) = ldR (st i) 3 x 7 :=
  ldRow x _ H (st i) 3 7 (k0_off8_eq i 3)

variable (m : (ℓ : Loc nD τ sig) → Buf (Elt Ideal) ℓ) (c : Dev nD) (t : Fin cfg0.N)

/-- What the scratch holds after a point that finds `acc` in it. -/
abbrev nxt (acc : Vec Ideal S1024x512 .f32) : FVec Ideal S1024x512 .f32 :=
  k0_pay1 (wgt (st (grid0.coords t)) (iblk m c 0 t) (iblk m c 2 t) (iblk m c 4 t) (iblk m c 5 t) (iblk m c 6 t) (iblk m c 7 t)) acc (k0_pay43 (iblk m c 3 t)) (constant S1024x512 .f32 0x00000000#32)

/-- The first point of a run starts from zeros. -/
theorem bodyA (h : t.val % 32 = 0) (h' : ¬ t.val % 32 = 31) : (outsAt0 m c t.val t.isLt).2 = nxt m c t (k0_pay3 (F := Ideal)) := by
  rw [outsAt0_A m c t h h']
  frame_out
  simp only [ldT0, ldR0_0, ldR0_1, ldR0_2, ldR0_3, ldT1, ldR1_0, ldR1_1, ldR1_2, ldR1_3, ldT2, ldR2_0, ldR2_1, ldR2_2, ldR2_3, ldT3, ldR3_0, ldR3_1, ldR3_2, ldR3_3, ldT4, ldR4_0, ldR4_1, ldR4_2, ldR4_3, ldT5, ldR5_0, ldR5_1, ldR5_2, ldR5_3, ldT6, ldR6_0, ldR6_1, ldR6_2, ldR6_3, ldT7, ldR7_0, ldR7_1, ldR7_2, ldR7_3]
  rfl

/-- A middle point adds to what the point before left. -/
theorem bodyB (h : ¬ t.val % 32 = 0) (h' : ¬ t.val % 32 = 31) : (outsAt0 m c t.val t.isLt).2 = nxt m c t (outsAt0 m c (t.val - 1) (Nat.lt_of_le_of_lt (Nat.sub_le _ _) t.isLt)).2 := by
  rw [outsAt0_B m c t h h']
  frame_out
  simp only [ldT0, ldR0_0, ldR0_1, ldR0_2, ldR0_3, ldT1, ldR1_0, ldR1_1, ldR1_2, ldR1_3, ldT2, ldR2_0, ldR2_1, ldR2_2, ldR2_3, ldT3, ldR3_0, ldR3_1, ldR3_2, ldR3_3, ldT4, ldR4_0, ldR4_1, ldR4_2, ldR4_3, ldT5, ldR5_0, ldR5_1, ldR5_2, ldR5_3, ldT6, ldR6_0, ldR6_1, ldR6_2, ldR6_3, ldT7, ldR7_0, ldR7_1, ldR7_2, ldR7_3, (Memref.isWhole_whole _).read_unread]
  rfl

/-- The last point writes the norm of the sum. -/
theorem bodyC (h : ¬ t.val % 32 = 0) (h' : t.val % 32 = 31) : (outsAt0 m c t.val t.isLt).1 = k0_pay2 (iblk m c 1 t) (nxt m c t (outsAt0 m c (t.val - 1) (Nat.lt_of_le_of_lt (Nat.sub_le _ _) t.isLt)).2) (iblk m c 8 t) (iblk m c 9 t) := by
  rw [outsAt0_C m c t h h']
  frame_out
  simp only [ldT0, ldR0_0, ldR0_1, ldR0_2, ldR0_3, ldT1, ldR1_0, ldR1_1, ldR1_2, ldR1_3, ldT2, ldR2_0, ldR2_1, ldR2_2, ldR2_3, ldT3, ldR3_0, ldR3_1, ldR3_2, ldR3_3, ldT4, ldR4_0, ldR4_1, ldR4_2, ldR4_3, ldT5, ldR5_0, ldR5_1, ldR5_2, ldR5_3, ldT6, ldR6_0, ldR6_1, ldR6_2, ldR6_3, ldT7, ldR7_0, ldR7_1, ldR7_2, ldR7_3, (Memref.isWhole_whole _).read_unread]
  rfl

end Cert.Vals.Experts

end
-- ==== Proof.Experts.Blocks.lean ====
module

public import proofs.«01_k».proof.Proof.Gen.ExpertsIdeal.Value
public import proofs.«01_k».proof.Proof.Experts.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Experts

open Cert.ExpertsIdeal Cert.ExpertsIdeal.Gen

/-- The block each step reads and writes, per window. -/
theorem idx : ∀ t : Fin cfg0.N, win0_0.index t = ![0, t.val / 32] ∧ win0_1.index t = ![0, t.val / 32] ∧ win0_2.index t = ![t.val % 32, 0] ∧ win0_3.index t = ![0, t.val % 32]
    ∧ win0_4.index t = ![0, 0, t.val / 32] ∧ win0_5.index t = ![0, 0, t.val / 32] ∧ win0_6.index t = ![0, 0, t.val / 32] ∧ win0_7.index t = ![0, 0, t.val / 32]
    ∧ win0_8.index t = ![0, 0] ∧ win0_9.index t = ![0, 0] ∧ win0_10.index t = ![0, t.val / 32] ∧ (grid0.coords t 1).val = t.val % 32 :=
  (by decide +kernel : ∀ t : Fin grid0.N, _)

variable (m : (ℓ : Loc nD τ sig) → Buf (Elt Ideal) ℓ) (c : Dev nD) (t : Fin cfg0.N)

/-- An entry of the tokens' block: tokens by column. -/
theorem blkX (k : Fin 1024) (r : Fin 512) (T : Fin 16384) (hT : T.val = 512 * (t.val / 32) + r.val) : (iblk m c 0 t : Vec Ideal S1024x512 .bf16) (ix2 k r) = (m ((c : Thread nD τ).loc main_arg0) : Vec Ideal S16384x1024 .f32) (ix2 T k) := by
  blk_point [iblk, V, idx t]

/-- An entry of the residual stream's block. -/
theorem blkF (k : Fin 1024) (r : Fin 512) (T : Fin 16384) (hT : T.val = 512 * (t.val / 32) + r.val) : (iblk m c 1 t : Vec Ideal S1024x512 .f32) (ix2 k r) = (m ((c : Thread nD τ).loc main_arg0) : Vec Ideal S16384x1024 .f32) (ix2 T k) := by
  blk_point [iblk, V, idx t]

/-- An entry of the experts' first vectors. -/
theorem blkU (e : Fin 512) (k : Fin 1024) (E : Fin 16384) (hE : E.val = 512 * (t.val % 32) + e.val) : (iblk m c 2 t : Vec Ideal S512x1024 .bf16) (ix2 e k) = (m ((c : Thread nD τ).loc main_arg5) : Vec Ideal S1x16384x1024 .f32) (ix3 0 E k) := by
  blk_point [iblk, V, idx t]

/-- An entry of the experts' second vectors. -/
theorem blkV (d : Fin 1024) (e : Fin 512) (E : Fin 16384) (hE : E.val = 512 * (t.val % 32) + e.val) : (iblk m c 3 t : Vec Ideal S1024x512 .bf16) (ix2 d e) = (m ((c : Thread nD τ).loc main_arg6) : Vec Ideal S1x16384x1024 .f32) (ix3 0 E d) := by
  blk_point [iblk, V, idx t]

/-- An entry of the second scores. -/
theorem blkSS (h : Fin 8) (j : Fin 128) (r : Fin 512) (T : Fin 16384) (hT : T.val = 512 * (t.val / 32) + r.val) : (iblk m c 4 t : Vec Ideal S8x128x512 .f32) (ix3 h j r) = (m ((c : Thread nD τ).loc main_arg1) : Vec Ideal S8x128x16384 .f32) (ix3 h j T) := by
  blk_ext [iblk, V, idx t]

/-- An entry of the thresholds. -/
theorem blkCC (h : Fin 8) (j : Fin 128) (r : Fin 512) (T : Fin 16384) (hT : T.val = 512 * (t.val / 32) + r.val) : (iblk m c 5 t : Vec Ideal S8x128x512 .f32) (ix3 h j r) = (m ((c : Thread nD τ).loc main_arg2) : Vec Ideal S8x128x16384 .f32) (ix3 h j T) := by
  blk_ext [iblk, V, idx t]

/-- An entry of the first factors. -/
theorem blkAA (h : Fin 8) (j : Fin 128) (r : Fin 512) (T : Fin 16384) (hT : T.val = 512 * (t.val / 32) + r.val) : (iblk m c 6 t : Vec Ideal S8x128x512 .f32) (ix3 h j r) = (m ((c : Thread nD τ).loc main_arg3) : Vec Ideal S8x128x16384 .f32) (ix3 h j T) := by
  blk_ext [iblk, V, idx t]

/-- An entry of the second factors. -/
theorem blkBB (h : Fin 8) (j : Fin 128) (r : Fin 512) (T : Fin 16384) (hT : T.val = 512 * (t.val / 32) + r.val) : (iblk m c 7 t : Vec Ideal S8x128x512 .f32) (ix3 h j r) = (m ((c : Thread nD τ).loc main_arg4) : Vec Ideal S8x128x16384 .f32) (ix3 h j T) := by
  blk_ext [iblk, V, idx t]

/-- An entry of the norm's gain. -/
theorem blkG (d : Fin 1024) : (iblk m c 8 t : Vec Ideal S1024x1 .f32) (ix2 d 0) = (m ((c : Thread nD τ).loc main_arg7) : Vec Ideal S1x1024 .f32) (ix2 0 d) := by
  blk_point [iblk, V, idx t]

/-- An entry of the norm's bias. -/
theorem blkH (d : Fin 1024) : (iblk m c 9 t : Vec Ideal S1024x1 .f32) (ix2 d 0) = (m ((c : Thread nD τ).loc main_arg8) : Vec Ideal S1x1024 .f32) (ix2 0 d) := by
  blk_point [iblk, V, idx t]

end Cert.Vals.Experts

end
-- ==== Proof.Experts.Sums.lean ====
module

public import Idealize.ShloMosaic.Lib.Pointwise

/-! # A sum over all experts, step by step -/

@[expose] public section

noncomputable section

open Idealize.ShloMosaic

namespace Cert.Vals.Experts

/-- The part of a sum over 16384 that belongs to step `s`: its 512 terms. -/
def part (f : Fin 16384 → EReal) (s : ℕ) : EReal := if h : s < 32 then ∑ e : Fin 512, f ⟨512 * s + e.val, by omega⟩ else 0

/-- The 32 parts add up to the whole sum. -/
theorem sum_parts (f : Fin 16384 → EReal) : ∑ s ∈ Finset.range 32, part f s = ∑ e : Fin 16384, f e := by
  rw [Finset.sum_range, ← Equiv.sum_comp (finProdFinEquiv (m := 32) (n := 512)) (fun e : Fin (32 * 512) => f e), Fintype.sum_prod_type]
  refine Finset.sum_congr rfl fun s _ => ?_
  unfold part
  rw [dif_pos s.isLt]
  refine Finset.sum_congr rfl fun e _ => congrArg f (Fin.ext ?_)
  show 512 * s.val + e.val = e.val + 512 * s.val
  omega

end Cert.Vals.Experts

end
-- ==== Proof.Experts.Claim.lean ====
module

public import proofs.«01_k».proof.Defs
public import proofs.«01_k».proof.Proof.Experts.Body
public import proofs.«01_k».proof.Proof.Experts.Blocks
public import proofs.«01_k».proof.Proof.Experts.Sums
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Experts

open Cert.ExpertsIdeal Cert.ExpertsIdeal.Gen

variable (m : (ℓ : Loc nD τ sig) → Buf (Elt Ideal) ℓ) (c : Dev nD)

/-- The reference's gates over the launch arrays. -/
abbrev SG : FVec Ideal Cert.ExpertsReferenceIdeal.S16384x16384 .f32 :=
  gs (m ((c : Thread nD τ).loc main_arg1)) (m ((c : Thread nD τ).loc main_arg2)) (m ((c : Thread nD τ).loc main_arg3)) (m ((c : Thread nD τ).loc main_arg4))

/-- The reference's activations over the launch arrays. -/
abbrev LG : FVec Ideal Cert.ExpertsReferenceIdeal.S16384x16384 .f32 :=
  gl (pr (m ((c : Thread nD τ).loc main_arg0)) (m ((c : Thread nD τ).loc main_arg5)))

/-- The term of one expert in an entry of an experts' sum. -/
def trm (V : FVec Ideal Cert.ExpertsReferenceIdeal.S1x16384x1024 .f32) (G L : FVec Ideal Cert.ExpertsReferenceIdeal.S16384x16384 .f32) (T : Fin 16384) (d : Fin 1024) (E : Fin 16384) : EReal :=
  V (ix3 0 E d) * (G (ix2 E T) * L (ix2 T E))

/-- The same over the launch arrays. -/
abbrev term : Fin 16384 → Fin 1024 → Fin 16384 → EReal := trm (m ((c : Thread nD τ).loc main_arg6)) (SG m c) (LG m c)

/-- A point adds its step's part of the sum. -/
theorem nxt_at (t : Fin cfg0.N) (acc : Vec Ideal S1024x512 .f32) (d : Fin 1024) (r : Fin 512) (T : Fin 16384) (hT : T.val = 512 * (t.val / 32) + r.val) :
    nxt m c t acc (ix2 d r) = acc (ix2 d r) + part (term m c T d) (t.val % 32) := by
  have hs : (st (grid0.coords t)).val = t.val % 32 := (idx t).2.2.2.2.2.2.2.2.2.2.2
  have hl : t.val % 32 < 32 := Nat.mod_lt _ (by decide)
  refine (step_at _ _ _ d r).trans (congrArg (fun z : EReal => acc (ix2 d r) + z) ?_)
  unfold part
  rw [dif_pos hl]
  refine Finset.sum_congr rfl fun e _ => ?_
  unfold term trm
  rw [blkV m c t d e ⟨512 * (t.val % 32) + e.val, by omega⟩ rfl]
  refine congrArg (fun z : EReal => _ * z) ?_
  exact wgt_eq (st (grid0.coords t)) _ _ _ _ _ _ (m ((c : Thread nD τ).loc main_arg0)) (m ((c : Thread nD τ).loc main_arg5)) _ _ _ _ e r ⟨512 * (t.val % 32) + e.val, by omega⟩ T (by rw [hs])
    (fun k => blkX m c t k r T hT) (fun k => blkU m c t e k _ rfl) (fun h j => blkSS m c t h j r T hT) (fun h j => blkCC m c t h j r T hT)
    (fun h j => blkAA m c t h j r T hT) (fun h j => blkBB m c t h j r T hT)

/-- The scratch after a point that is not its run's last: the parts up to its step. -/
theorem state (n : ℕ) : ∀ (hn : n < cfg0.N), ¬ n % 32 = 31 → ∀ (d : Fin 1024) (r : Fin 512) (T : Fin 16384), T.val = 512 * (n / 32) + r.val →
    (outsAt0 m c n hn).2 (ix2 d r) = ∑ s ∈ Finset.range (n % 32 + 1), part (term m c T d) s := by
  induction n with
  | zero =>
    intro hn h1 d r T hT
    rw [bodyA m c ⟨0, hn⟩ rfl h1, nxt_at m c ⟨0, hn⟩ _ d r T hT, zero_at, zero_add]
    exact (Finset.sum_range_one _).symm
  | succ n ih =>
    intro hn h1 d r T hT
    by_cases h0 : (n + 1) % 32 = 0
    · rw [bodyA m c ⟨n + 1, hn⟩ h0 h1, nxt_at m c ⟨n + 1, hn⟩ _ d r T hT, zero_at, zero_add]
      show part _ ((n + 1) % 32) = _
      rw [h0]
      exact (Finset.sum_range_one _).symm
    · rw [bodyB m c ⟨n + 1, hn⟩ h0 h1, nxt_at m c ⟨n + 1, hn⟩ _ d r T hT]
      show (outsAt0 m c n _).2 (ix2 d r) + part _ ((n + 1) % 32) = _
      rw [ih (by omega) (by omega) d r T (by omega), Finset.sum_range_succ _ ((n + 1) % 32)]
      have e : (n + 1) % 32 = n % 32 + 1 := by omega
      rw [e]

/-- The whole result array is the reference's. -/
theorem final : (dats m 0 c).arrAt 10 (cfgs 0).N = gb (nm2 (ce2 (zz (m ((c : Thread nD τ).loc main_arg0)) (ys (SG m c) (LG m c) (m ((c : Thread nD τ).loc main_arg6)))))) (m ((c : Thread nD τ).loc main_arg7)) (m ((c : Thread nD τ).loc main_arg8)) := by
  refine (dats m 0 c).arrAt_eq_of_covers 10 _ (by decide +kernel) fun t hf y => ?_
  have h1 : t.val % 32 = 31 := (by decide +kernel : ∀ t : Fin grid0.N, win0_10.flush t = true → t.val % 32 = 31) t hf
  have h0 : ¬ t.val % 32 = 0 := by omega
  have ht : t.val < 1024 := t.isLt
  blk_simp
  rw [after0_10, bodyC m c t h0 h1]
  obtain ⟨d, r, rfl⟩ : ∃ (d : Fin 1024) (r : Fin 512), y = (ix2 d r : S1024x512.Idx) := ⟨y 0, y 1, by funext a; fin_cases a <;> rfl⟩
  have e : (win0_10.blk t).view.emb (ix2 d r : S1024x512.Idx) = ix2 d (⟨512 * (t.val / 32) + r.val, by omega⟩ : Fin 16384) := by
    blk_ext [idx t]
  refine Eq.trans ?_ (congrArg _ e.symm)
  refine last_at _ _ _ _ _ _ _ _ r _ (fun d => blkF m c t d r _ rfl) (fun d => ?_) (blkG m c t) (blkH m c t) d
  rw [nxt_at m c t _ d r ⟨512 * (t.val / 32) + r.val, by omega⟩ rfl, ys_at,
    state m c (t.val - 1) _ (by omega) d r ⟨512 * (t.val / 32) + r.val, by omega⟩ (by show 512 * (t.val / 32) + r.val = 512 * ((t.val - 1) / 32) + r.val; omega)]
  have e1 : (t.val - 1) % 32 + 1 = t.val % 32 := by omega
  rw [e1, ← Finset.sum_range_succ _ (t.val % 32), h1]
  exact sum_parts (term m c _ d)

/-- The experts' call computes the reference's sum of experts and its layer norm. -/
theorem algebraic : Cert.algebraic_ExpertsIdeal_ExpertsReferenceIdeal := by
  pair_intro
  · run_from Cert.ExpertsIdeal.Value.run_blocks m g
  · run_from Cert.ExpertsReferenceIdeal.Value.run m' g'
    obtain ⟨e0, e1, e2, e3, e4, e5, e6, e7, e8⟩ := hagree c
    rw [res_eq, e0, e1, e2, e3, e4, e5, e6, e7, e8]
    exact (final m c).symm

end Cert.Vals.Experts

end
-- ==== Proof.Scores.Ref.lean ====
module

public import proofs.«01_k».proof.Proof.Gen.ScoresReferenceIdeal.Run
public import proofs.«01_k».proof.Proof.Gen.Pre_finite_scores
public import proofs.«01_k».proof.Proof.Real
public import Idealize.ShloMosaic.Lib.Pointwise

@[expose] public section

set_option maxRecDepth 16384

noncomputable section

open Idealize.ShloMosaic Idealize.ShloMosaic.TcCoe Idealize.SL.Sem

namespace Cert.Vals.Scores

open Cert.ScoresReferenceIdeal Cert.ScoresReferenceIdeal.Gen

/-- A score: of one half p of a head h, the sub-key n against the token T. -/
def sc (X : FVec Ideal S16384x2048 .f32) (K : FVec Ideal S1x2x128x128 .f32) (p : Fin 2) (h : Fin 8) (n : Fin 128) (T : Fin 16384) : EReal :=
  ∑ d : Fin 128, K (ix4 0 p n d) * X (ix2 T (⟨h.val * 256 + p.val * 128 + d.val, by omega⟩ : Fin 2048))

/-- The best score of one half of a head over all sub-keys. -/
def best (X : FVec Ideal S16384x2048 .f32) (K : FVec Ideal S1x2x128x128 .f32) (p : Fin 2) (h : Fin 8) (T : Fin 16384) : EReal :=
  Finset.univ.fold max (⊥ : EReal) fun n : Fin 128 => sc X K p h n T

/-- All scores of the reference: half by head by sub-key by token. -/
abbrev ALL (X : FVec Ideal S16384x2048 .f32) (K : FVec Ideal S1x2x128x128 .f32) : FVec Ideal S2x8x128x16384 .f32 :=
  transpose S2x8x128x16384 [2, 1, 3, 0] (transpose S16384x8x2x128 [2, 3, 0, 1] (Host.dotGeneral dot_S2x128x128_S16384x8x2x128_S2x128x16384x8_2_3_1_01_0_2 none (shapeCast _ K shapeCasts_S1x2x128x128_S2x128x128) (shapeCast _ X shapeCasts_S16384x2048_S16384x8x2x128)) transposes_S2x128x16384x8_S16384x8x2x128_2_3_0_1) transposes_S16384x8x2x128_S2x8x128x16384_2_1_3_0

/-- The reference's first scores. -/
abbrev FIRST (A : FVec Ideal S2x8x128x16384 .f32) : FVec Ideal S8x128x16384 .f32 :=
  shapeCast _ (extractStridedSlice S1x8x128x16384 ![0, 0, 0, 0] A slices_S2x8x128x16384_S1x8x128x16384_0_0_0_0) shapeCasts_S1x8x128x16384_S8x128x16384

/-- The reference's second scores, its first result. -/
abbrev SECOND (A : FVec Ideal S2x8x128x16384 .f32) : FVec Ideal S8x128x16384 .f32 :=
  shapeCast _ (extractStridedSlice S1x8x128x16384 ![1, 0, 0, 0] A slices_S2x8x128x16384_S1x8x128x16384_1_0_0_0) shapeCasts_S1x8x128x16384_S8x128x16384

/-- The reference's factors from its first scores, its second result. -/
abbrev FACTOR (S : FVec Ideal S8x128x16384 .f32) : FVec Ideal S8x128x16384 .f32 :=
  Host.exp (subf S (broadcastInDim S8x128x16384 ![0, 1, 2] bcast_S8x1x16384_S8x128x16384_0_1_2 (broadcastInDim S8x1x16384 ![0, 2] bcast_S8x16384_S8x1x16384_0_2 (Host.reduce FloatOps.maximumf S (constant S_ .f32 0xFF800000#32) reducesTo_S8x128x16384_S8x16384_d1 h_S_))))

/-- One entry of the reference's scores. -/
theorem all_at (X : FVec Ideal S16384x2048 .f32) (K : FVec Ideal S1x2x128x128 .f32) (p : Fin 2) (h : Fin 8) (n : Fin 128) (T : Fin 16384) :
    ALL X K (ix4 p h n T) = sc X K p h n T := by
  pointwise [ALL, sc]

/-- The first scores are half 0. -/
theorem first_at (A : FVec Ideal S2x8x128x16384 .f32) (h : Fin 8) (n : Fin 128) (T : Fin 16384) : FIRST A (ix3 h n T) = A (ix4 0 h n T) := by
  pointwise [FIRST]

/-- The second scores are half 1. -/
theorem second_at (A : FVec Ideal S2x8x128x16384 .f32) (h : Fin 8) (n : Fin 128) (T : Fin 16384) : SECOND A (ix3 h n T) = A (ix4 1 h n T) := by
  pointwise [SECOND]

/-- The word of minus infinity. -/
theorem ninf : Ideal.ofBits FTy.f32 0xFF800000#32 = ⊥ := by simp [Ideal.ofBits, Ideal.ieee]

/-- A factor: the exponential of a score less the greatest of its head and token. -/
theorem factor_at (S : FVec Ideal S8x128x16384 .f32) (h : Fin 8) (n : Fin 128) (T : Fin 16384) :
    FACTOR S (ix3 h n T) = Ideal.exp (S (ix3 h n T) - Finset.univ.fold max (⊥ : EReal) fun k : Fin 128 => S (ix3 h k T)) := by
  pointwise [FACTOR]
  rw [ninf]

/-- A conjunction over a finite set of words is one only when each of its words is. -/
theorem fold_one {ι : Type} [DecidableEq ι] (f : ι → BitVec 1) (s : Finset ι) (h : s.fold IntOp.andi (1#1) f = 1#1) (i : ι) (hi : i ∈ s) : f i = 1#1 := by
  rw [← Finset.insert_erase hi, Finset.fold_insert (Finset.notMem_erase i s)] at h
  exact (Cert.Real.andi_one _ _ h).1

/-- The precondition: the queries and the sub-keys are real numbers. -/
theorem pre (X : FVec Ideal Cert.Pre_finite_scores.S16384x2048 .f32) (K : FVec Ideal Cert.Pre_finite_scores.S1x2x128x128 .f32)
    (h : Cert.Pre_finite_scores.fn X K = fun _ => 1#1) :
    (∀ (a : Fin 16384) (b : Fin 2048), (((X (ix2 a b)).toReal : ℝ) : EReal) = X (ix2 a b))
      ∧ ∀ (a : Fin 1) (p : Fin 2) (b d : Fin 128), (((K (ix4 a p b d)).toReal : ℝ) : EReal) = K (ix4 a p b d) := by
  have h0 := congrFun h ix0
  pointwise [Cert.Pre_finite_scores.fn] at h0
  obtain ⟨h1, h2⟩ := Cert.Real.andi_one _ _ h0
  refine ⟨fun a b => Cert.Real.real_of_cmp _ (Cert.Real.fold_andi _ h1 (a, b)), fun a p b d => Cert.Real.real_of_cmp _ ?_⟩
  exact fold_one _ _ h2 (ix4 a p b d) (Finset.mem_filter.mpr ⟨Finset.mem_univ _, funext fun q => q.elim0⟩)

end Cert.Vals.Scores

end
-- ==== Proof.Scores.Tile.lean ====
module

public import proofs.«01_k».proof.Proof.Gen.ScoresIdeal.Value
public import proofs.«01_k».proof.Proof.Scores.Ref
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Vals.Scores

open Cert.ScoresIdeal Cert.ScoresIdeal.Gen

/-- A real number less itself is nothing. -/
theorem less_self {x : EReal} (h : ((x.toReal : ℝ) : EReal) = x) : x - x = 0 := by
  rw [← h, ← EReal.coe_sub, sub_self, EReal.coe_zero]

/-- Nothing is added where the second term is zero. -/
theorem drop_zero {x y : EReal} (h : x = 0) : y + x = y := by rw [h, add_zero]

/-- The first scores of a tile: the product with the sub-keys' high part, if the queries are real and the low part is zero. -/
theorem first_tile (q : Vec Ideal S256x128 .f32) (kh kl : Vec Ideal S1x128x128 .bf16)
    (hq : ∀ r d, (((q (ix2 r d)).toReal : ℝ) : EReal) = q (ix2 r d)) (hk : ∀ n d, kl (ix3 0 n d) = (0 : EReal)) (n : Fin 128) (r : Fin 256) :
    k0_pay4 q kh kl (ix2 n r) = ∑ d : Fin 128, (kh (ix3 0 n d) : EReal) * q (ix2 r d) := by
  pointwise [k0_pay4]
  refine (drop_zero (Finset.sum_eq_zero fun d _ => ?_)).trans ((drop_zero (Finset.sum_eq_zero fun d _ => ?_)))
  · rw [hk, zero_mul]
  · rw [less_self (hq _ _), mul_zero]

/-- The second scores of a tile are made as the first. -/
theorem second_tile (q : Vec Ideal S256x128 .f32) (kh kl : Vec Ideal S1x128x128 .bf16) : k0_pay5 q kh kl = k0_pay4 q kh kl := rfl

/-- The first row of the kernel's list of best first scores: the greatest of each column. -/
theorem top_tile (q : Vec Ideal S256x128 .f32) (kh kl : Vec Ideal S1x128x128 .bf16) (r : Fin 256) :
    k0_pay7 q kh kl (ix2 0 r) = Finset.univ.fold max (⊥ : EReal) fun n : Fin 128 => k0_pay4 q kh kl (ix2 n r) := by
  pointwise [k0_pay7, k0_pay6]
  rw [ninf]

/-- A factor of a tile: the exponential of a score less the first row of the list. -/
theorem factor_tile (s : FVec Ideal S128x256 .f32) (a : Vec Ideal S16x256 .f32) (n : Fin 128) (r : Fin 256) :
    k0_pay2 s a (ix3 0 n r) = Ideal.exp (s (ix2 n r) - a (ix2 0 r)) := by
  pointwise [k0_pay2]

/-- The stored second scores. -/
theorem stored_tile (s : FVec Ideal S128x256 .f32) (n : Fin 128) (r : Fin 256) : k0_pay135 s (ix3 0 n r) = s (ix2 n r) := by
  pointwise [k0_pay135]

end Cert.Vals.Scores

end
-- ==== Proof.Scores.Blocks.lean ====
module

public import proofs.«01_k».proof.Proof.Scores.Tile
public import proofs.«01_k».proof.Defs

@[expose] public section

set_option maxRecDepth 16384

noncomputable section

open Idealize.ShloMosaic Idealize.ShloMosaic.TcCoe Idealize.SL.Sem

namespace Cert.Vals.Scores

open Cert.ScoresIdeal Cert.ScoresIdeal.Gen

variable (m : (ℓ : Loc nD τ sig) → Buf (Elt Ideal) ℓ)

/-- The block each step reads and writes, per window. -/
theorem idx : ∀ t : Fin cfg0.N, win0_0.index t = ![t.val / 8, t.val % 8] ∧ win0_1.index t = ![0, 0, 0] ∧ win0_2.index t = ![0, 0, 0] ∧ win0_3.index t = ![t.val % 8, 0, t.val / 8] ∧ win0_5.index t = ![t.val % 8, 0, t.val / 8] :=
  (by decide +kernel : ∀ t : Fin grid0.N, _)

/-- The queries of a step. -/
theorem blkQ (c : Dev nD) (t : Fin cfg0.N) (r : Fin 256) (k : Fin 256) (T : Fin 16384) (D : Fin 2048) (hT : T.val = 256 * (t.val / 8) + r.val) (hD : D.val = 256 * (t.val % 8) + k.val) :
    (iblk m c 0 t : Vec Ideal S256x256 .f32) (ix2 r k) = (m ((c : Thread nD τ).loc main_arg0) : Vec Ideal S16384x2048 .f32) (ix2 T D) := by
  blk_ext [iblk, V, idx t]

/-- The high part of the sub-keys is the sub-keys. -/
theorem blkHi (c : Dev nD) (t : Fin cfg0.N) (p : Fin 2) (n d : Fin 128) :
    (iblk m c 1 t : Vec Ideal S2x128x128 .bf16) (ix3 p n d) = (m ((c : Thread nD τ).loc main_arg1) : Vec Ideal S1x2x128x128 .f32) (ix4 0 p n d) := by
  blk_point [iblk, V, idx t]

/-- The low part of the sub-keys is what is left of them: a difference with themselves. -/
theorem blkLo (c : Dev nD) (t : Fin cfg0.N) (p : Fin 2) (n d : Fin 128) :
    (iblk m c 2 t : Vec Ideal S2x128x128 .bf16) (ix3 p n d) = (fun x : EReal => x - x) ((m ((c : Thread nD τ).loc main_arg1) : Vec Ideal S1x2x128x128 .f32) (ix4 0 p n d)) := by
  show V m c main_v4 ((win0_2.blk t).view.emb (ix3 p n d : S2x128x128.Idx)) = _
  have e : (win0_2.blk t).view.emb (ix3 p n d : S2x128x128.Idx) = ix3 p n d := by blk_ext [idx t]
  rw [e]
  entry_read
  pointwise

end Cert.Vals.Scores

end
-- ==== Proof.Scores.Step.lean ====
module

public import Idealize.ShloMosaic.Lib.WritesUnit
public import proofs.«01_k».proof.Proof.Scores.Blocks

@[expose] public section

set_option maxRecDepth 16384

noncomputable section

open Idealize.ShloMosaic Idealize.ShloMosaic.TcCoe Idealize.SL.Sem

namespace Cert.Vals.Scores

open Cert.ScoresIdeal Cert.ScoresIdeal.Gen

variable (m : (ℓ : Loc nD τ sig) → Buf (Elt Ideal) ℓ)

/-- A row stored below the first leaves the first row as it was. -/
theorem below (v : View sig .tc .vmem S16x256 .f32) (f) (k : ℕ) (inb : ∀ a, ![k, 0] a + ![1, 256] a ≤ S16x256.size a)
    (w : (Rect.unit (s := S16x256) ![k, 0] ![1, 256] inb).shape.Idx → Elt Ideal .f32) (L : List (View.Piece (Elt Ideal) S16x256 .f32)) (r : Fin 256) (hk : 0 < k) :
    v.read (Elt Ideal) (v.writes (Elt Ideal) f (⟨Rect.unit (s := S16x256) ![k, 0] ![1, 256] inb, w⟩ :: L)) (ix2 0 r) = v.read (Elt Ideal) (v.writes (Elt Ideal) f L) (ix2 0 r) :=
  View.read_writes_cons_unit_of_not_mem (off' := ![k, 0]) v f inb w L (ix2 0 r) rfl 0 (Or.inl hk)

/-- The first row reads what was stored in it. -/
theorem topmost (v : View sig .tc .vmem S16x256 .f32) (f) (inb : ∀ a, ![0, 0] a + ![1, 256] a ≤ S16x256.size a)
    (w : (Rect.unit (s := S16x256) ![0, 0] ![1, 256] inb).shape.Idx → Elt Ideal .f32) (L : List (View.Piece (Elt Ideal) S16x256 .f32)) (r : Fin 256) :
    v.read (Elt Ideal) (v.writes (Elt Ideal) f (⟨Rect.unit (s := S16x256) ![0, 0] ![1, 256] inb, w⟩ :: L)) (ix2 0 r) = w (ix2 0 r) :=
  View.read_writes_cons_unit_of_mem (off' := ![0, 0]) v f inb w L (ix2 0 r) (ix2 0 r) rfl (by intro a; fin_cases a <;> simp [ix2])

/-- A load of the whole list reads its first row at its first row. -/
theorem whole_row (v : View sig .tc .vmem S16x256 .f32) (L : List (View.Piece (Elt Ideal) S16x256 .f32)) (inb) (r : Fin 256) :
    (v.readCov L (Rect.unit (s := S16x256) ![0, 0] ![16, 256] inb).toLoadRect : Vec Ideal S16x256 .f32) (ix2 0 r)
      = v.read (Elt Ideal) (v.writes (Elt Ideal) v.junk L) (ix2 0 r) := by
  unfold View.readCov
  refine congrArg (v.read (Elt Ideal) (v.writes (Elt Ideal) v.junk L)) ?_
  funext a
  fin_cases a <;> exact Fin.ext (by show 0 + 1 * _ = _; simp [ix2])

/-- The queries of one half, as the body loads them. -/
abbrev ldQ (x : Vec Ideal S256x256 .f32) (p : ℕ) (H : ∀ a, ![0, p] a + ![256, 128] a ≤ S256x256.size a) : Vec Ideal S256x128 .f32 :=
  View.ld x (Rect.unit (s := S256x256) ![0, p] ![256, 128] H)

/-- The sub-keys of one half, as the body loads them. -/
abbrev ldK (x : Vec Ideal S2x128x128 .bf16) (p : ℕ) (H : ∀ a, ![p, 0, 0] a + ![1, 128, 128] a ≤ S2x128x128.size a) : Vec Ideal S1x128x128 .bf16 :=
  View.ld x (Rect.unit (s := S2x128x128) ![p, 0, 0] ![1, 128, 128] H)

/-- One entry of the queries loaded. -/
theorem ldQ_at (x : Vec Ideal S256x256 .f32) (p : ℕ) (H) (r : Fin 256) (d : Fin 128) (k : Fin 256) (hk : k.val = p + d.val) : ldQ x p H (ix2 r d) = x (ix2 r k) := by
  refine congrArg x ?_
  funext a
  fin_cases a <;> refine Fin.ext ?_
  · show 0 + 1 * r.val = r.val; omega
  · show p + 1 * d.val = k.val; omega

/-- One entry of the sub-keys loaded. -/
theorem ldK_at (x : Vec Ideal S2x128x128 .bf16) (p : Fin 2) (H) (n d : Fin 128) : ldK x p.val H (ix3 0 n d) = x (ix3 p n d) := by
  refine congrArg x ?_
  funext a
  fin_cases a <;> refine Fin.ext ?_
  · show p.val + 1 * 0 = p.val; omega
  · show 0 + 1 * n.val = n.val; omega
  · show 0 + 1 * d.val = d.val; omega

section
variable (c : Dev nD) (hX : ∀ (a : Fin 16384) (b : Fin 2048), ((((m ((c : Thread nD τ).loc main_arg0) : FVec Ideal S16384x2048 .f32) (ix2 a b)).toReal : ℝ) : EReal) = (m ((c : Thread nD τ).loc main_arg0) : FVec Ideal S16384x2048 .f32) (ix2 a b))
    (hK : ∀ (a : Fin 1) (p : Fin 2) (b d : Fin 128), ((((m ((c : Thread nD τ).loc main_arg1) : FVec Ideal S1x2x128x128 .f32) (ix4 a p b d)).toReal : ℝ) : EReal) = (m ((c : Thread nD τ).loc main_arg1) : FVec Ideal S1x2x128x128 .f32) (ix4 a p b d))
include hX hK

/-- A step's scores of one half are the reference's of its head and tokens. -/
theorem score (t : Fin cfg0.N) (p : Fin 2) (q : ℕ) (hq : q = 128 * p.val) (H0 H1 H2) (n : Fin 128) (r : Fin 256) (T : Fin 16384) (hT : T.val = 256 * (t.val / 8) + r.val) (h : Fin 8) (hh : h.val = t.val % 8) :
    k0_pay4 (ldQ (iblk m c 0 t) q H0) (ldK (iblk m c 1 t) p.val H1) (ldK (iblk m c 2 t) p.val H2) (ix2 n r)
      = sc (m ((c : Thread nD τ).loc main_arg0)) (m ((c : Thread nD τ).loc main_arg1)) p h n T := by
  have hp := p.isLt
  have eq : ∀ (s : Fin 256) (S : Fin 16384) (hS : S.val = 256 * (t.val / 8) + s.val) (d : Fin 128), ldQ (iblk m c 0 t) q H0 (ix2 s d)
      = (m ((c : Thread nD τ).loc main_arg0) : Vec Ideal S16384x2048 .f32) (ix2 S (⟨h.val * 256 + p.val * 128 + d.val, by omega⟩ : Fin 2048)) := fun s S hS d => by
    rw [ldQ_at _ _ _ s d (⟨q + d.val, by omega⟩ : Fin 256) rfl]
    exact blkQ m c t s _ S _ hS (by simp only; omega)
  have ht : t.val < 512 := t.isLt
  rw [first_tile]
  · unfold sc
    refine Finset.sum_congr rfl fun d _ => ?_
    rw [eq r T hT, ldK_at, blkHi]
  · intro s d
    rw [eq s (⟨256 * (t.val / 8) + s.val, by omega⟩ : Fin 16384) rfl]
    exact hX _ _
  · intro n d
    rw [ldK_at, blkLo]
    exact less_self (hK _ _ _ _)

/-- The block of second scores that a step stores. -/
theorem step_second (t : Fin cfg0.N) (n : Fin 128) (r : Fin 256) (T : Fin 16384) (hT : T.val = 256 * (t.val / 8) + r.val) (h : Fin 8) (hh : h.val = t.val % 8) :
    ((outsAt0 m c t).1 : Vec Ideal S1x128x256 .f32) (ix3 0 n r) = sc (m ((c : Thread nD τ).loc main_arg0)) (m ((c : Thread nD τ).loc main_arg1)) 1 h n T := by
  unfold outsAt0
  dsimp only
  frame_out
  rw [stored_tile, second_tile]
  exact score m c hX hK t 1 128 rfl _ _ _ n r T hT h hh

/-- The block of first factors that a step stores. -/
theorem step_factor (t : Fin cfg0.N) (n : Fin 128) (r : Fin 256) (T : Fin 16384) (hT : T.val = 256 * (t.val / 8) + r.val) (h : Fin 8) (hh : h.val = t.val % 8) :
    ((outsAt0 m c t).2.2.1 : Vec Ideal S1x128x256 .f32) (ix3 0 n r)
      = Ideal.exp (sc (m ((c : Thread nD τ).loc main_arg0)) (m ((c : Thread nD τ).loc main_arg1)) 0 h n T - best (m ((c : Thread nD τ).loc main_arg0)) (m ((c : Thread nD τ).loc main_arg1)) 0 h T) := by
  unfold outsAt0
  dsimp only
  frame_out
  rw [factor_tile]
  have e := fun k => score m c hX hK t 0 0 rfl inb_S256x256_S256x128_0_0 inb_S2x128x128_S1x128x128_0_0_0 inb_S2x128x128_S1x128x128_0_0_0 k r T hT h hh
  refine congrArg Ideal.exp (congrArg₂ (· - ·) (e n) ?_)
  refine (whole_row _ _ _ _).trans ?_
  iterate 15 refine (below _ _ _ _ _ _ _ (by decide)).trans ?_
  refine (topmost _ _ _ _ _ _).trans ?_
  refine (top_tile _ _ _ r).trans ?_
  unfold best
  exact congrArg (fun f : Fin 128 → EReal => Finset.univ.fold max (⊥ : EReal) f) (funext e)

end

/-- The reference's second scores as its result array. -/
abbrev RES0 (X : FVec Ideal Cert.ScoresReferenceIdeal.S16384x2048 .f32) (K : FVec Ideal Cert.ScoresReferenceIdeal.S1x2x128x128 .f32) : FVec Ideal Cert.ScoresReferenceIdeal.S8x128x16384 .f32 := SECOND (ALL X K)

/-- The reference's factors as its result array. -/
abbrev RES1 (X : FVec Ideal Cert.ScoresReferenceIdeal.S16384x2048 .f32) (K : FVec Ideal Cert.ScoresReferenceIdeal.S1x2x128x128 .f32) : FVec Ideal Cert.ScoresReferenceIdeal.S8x128x16384 .f32 := FACTOR (FIRST (ALL X K))

section
variable (c : Dev nD) (hX : ∀ (a : Fin 16384) (b : Fin 2048), ((((m ((c : Thread nD τ).loc main_arg0) : FVec Ideal S16384x2048 .f32) (ix2 a b)).toReal : ℝ) : EReal) = (m ((c : Thread nD τ).loc main_arg0) : FVec Ideal S16384x2048 .f32) (ix2 a b))
    (hK : ∀ (a : Fin 1) (p : Fin 2) (b d : Fin 128), ((((m ((c : Thread nD τ).loc main_arg1) : FVec Ideal S1x2x128x128 .f32) (ix4 a p b d)).toReal : ℝ) : EReal) = (m ((c : Thread nD τ).loc main_arg1) : FVec Ideal S1x2x128x128 .f32) (ix4 a p b d))
include hX hK

/-- The whole array of second scores is the reference's. -/
theorem final_second : (dats m 0 c).arrAt 3 (cfgs 0).N = RES0 (m ((c : Thread nD τ).loc main_arg0)) (m ((c : Thread nD τ).loc main_arg1)) := by
  refine (dats m 0 c).arrAt_eq_of_covers 3 _ (by decide +kernel) fun t _ y => ?_
  have ht : t.val < 512 := t.isLt
  blk_simp
  rw [after0_3]
  obtain ⟨n, r, rfl⟩ : ∃ (n : Fin 128) (r : Fin 256), y = (ix3 0 n r : S1x128x256.Idx) := ⟨y 1, y 2, by funext a; fin_cases a <;> first | rfl | exact Subsingleton.elim (α := Fin 1) _ _⟩
  have e : (win0_3.blk t).view.emb (ix3 0 n r : S1x128x256.Idx) = ix3 (⟨t.val % 8, by omega⟩ : Fin 8) n (⟨256 * (t.val / 8) + r.val, by omega⟩ : Fin 16384) := by
    blk_ext [idx t]
  refine Eq.trans ?_ (congrArg _ e.symm)
  refine Eq.trans ?_ ((second_at _ _ _ _).trans (all_at _ _ _ _ _ _)).symm
  exact step_second m c hX hK t n r _ rfl _ rfl

/-- The whole array of first factors is the reference's. -/
theorem final_factor : (dats m 0 c).arrAt 5 (cfgs 0).N = RES1 (m ((c : Thread nD τ).loc main_arg0)) (m ((c : Thread nD τ).loc main_arg1)) := by
  refine (dats m 0 c).arrAt_eq_of_covers 5 _ (by decide +kernel) fun t _ y => ?_
  have ht : t.val < 512 := t.isLt
  blk_simp
  rw [after0_5]
  obtain ⟨n, r, rfl⟩ : ∃ (n : Fin 128) (r : Fin 256), y = (ix3 0 n r : S1x128x256.Idx) := ⟨y 1, y 2, by funext a; fin_cases a <;> first | rfl | exact Subsingleton.elim (α := Fin 1) _ _⟩
  have e : (win0_5.blk t).view.emb (ix3 0 n r : S1x128x256.Idx) = ix3 (⟨t.val % 8, by omega⟩ : Fin 8) n (⟨256 * (t.val / 8) + r.val, by omega⟩ : Fin 16384) := by
    blk_ext [idx t]
  refine Eq.trans ?_ (congrArg _ e.symm)
  refine Eq.trans ?_ (factor_at _ _ _ _).symm
  simp only [first_at, all_at]
  exact step_factor m c hX hK t n r _ rfl _ rfl

end

end Cert.Vals.Scores

end
-- ==== Proof.Scores.Claim.lean ====
module

public import proofs.«01_k».proof.Proof.Scores.Step

@[expose] public section

set_option maxRecDepth 16384

noncomputable section

open Idealize.ShloMosaic Idealize.ShloMosaic.TcCoe Idealize.SL.Sem

namespace Cert.Vals.Scores

open Cert.ScoresIdeal Cert.ScoresIdeal.Gen

/-- The scores' call computes the reference's second scores and first factors, for finite queries and sub-keys. -/
theorem algebraic : Cert.algebraic_ScoresIdeal_ScoresReferenceIdeal_pre_finite_scores := by
  pair_intro
  · run_from Cert.ScoresIdeal.Value.run_blocks m g
  · run_from Cert.ScoresReferenceIdeal.Value.run m' g'
    · obtain ⟨hX, hK⟩ := pre _ _ (hpre c)
      exact (final_second m c hX hK).symm
    · obtain ⟨hX, hK⟩ := pre _ _ (hpre c)
      exact (final_factor m c hX hK).symm

end Cert.Vals.Scores

end
-- ==== Proof.lean ====
module

public import proofs.«01_k».proof.Defs
public import proofs.«01_k».proof.Proof.Frames
public import proofs.«01_k».proof.Proof.Attn.Claim
public import proofs.«01_k».proof.Proof.Project.Claim
public import proofs.«01_k».proof.Proof.Rope.Claim
public import proofs.«01_k».proof.Proof.Merge.Claim
public import proofs.«01_k».proof.Proof.Query.Claim
public import proofs.«01_k».proof.Proof.Conv.Claim
public import proofs.«01_k».proof.Proof.Experts.Claim
public import proofs.«01_k».proof.Proof.Scores.Claim
public import Idealize.ShloMosaic.Adequacy
public import Idealize.ShloMosaic.Init

/-! # The certificate

The frames are `Proof/Frames.lean`; each call's value claim is its own folder's `Claim.lean`. -/

@[expose] public section

noncomputable section

namespace Cert.Proof

open Idealize.ShloMosaic Idealize.SL.Sem

/-- Every claim of the certificate, in the order it lists them. -/
theorem claim : Cert.Claim :=
  ⟨Cert.Kernel.Gen.facts,
    Cert.KernelIdeal.Gen.facts,
    Cert.ReferenceIdeal.Gen.facts,
    Cert.Project.Gen.facts,
    Cert.ProjectIdeal.Gen.facts,
    Cert.ProjectReferenceIdeal.Gen.facts,
    Cert.Rope.Gen.facts,
    Cert.RopeIdeal.Gen.facts,
    Cert.RopeReferenceIdeal.Gen.facts,
    Cert.Merge.Gen.facts,
    Cert.MergeIdeal.Gen.facts,
    Cert.MergeReferenceIdeal.Gen.facts,
    Cert.Query.Gen.facts,
    Cert.QueryIdeal.Gen.facts,
    Cert.QueryReferenceIdeal.Gen.facts,
    Cert.Conv.Gen.facts,
    Cert.ConvIdeal.Gen.facts,
    Cert.ConvReferenceIdeal.Gen.facts,
    Cert.Experts.Gen.facts,
    Cert.ExpertsIdeal.Gen.facts,
    Cert.ExpertsReferenceIdeal.Gen.facts,
    Cert.Scores.Gen.facts,
    Cert.ScoresIdeal.Gen.facts,
    Cert.ScoresReferenceIdeal.Gen.facts,
    Cert.Pre_finite.Gen.facts,
    Cert.Pre_finite_query.Gen.facts,
    Cert.Pre_finite_scores.Gen.facts,
    Cert.Frames.Kernel,
    Cert.Frames.KernelIdeal,
    Cert.Frames.KernelIdeal_pre_finite,
    Cert.Frames.ReferenceIdeal,
    Cert.Frames.ReferenceIdeal_pre_finite,
    Cert.Frames.Project,
    Cert.Frames.ProjectIdeal,
    Cert.Frames.ProjectReferenceIdeal,
    Cert.Frames.Rope,
    Cert.Frames.RopeIdeal,
    Cert.Frames.RopeReferenceIdeal,
    Cert.Frames.Merge,
    Cert.Frames.MergeIdeal,
    Cert.Frames.MergeReferenceIdeal,
    Cert.Frames.Query,
    Cert.Frames.QueryIdeal,
    Cert.Frames.QueryIdeal_pre_finite_query,
    Cert.Frames.QueryReferenceIdeal,
    Cert.Frames.QueryReferenceIdeal_pre_finite_query,
    Cert.Frames.Conv,
    Cert.Frames.ConvIdeal,
    Cert.Frames.ConvReferenceIdeal,
    Cert.Frames.Experts,
    Cert.Frames.ExpertsIdeal,
    Cert.Frames.ExpertsReferenceIdeal,
    Cert.Frames.Scores,
    Cert.Frames.ScoresIdeal,
    Cert.Frames.ScoresIdeal_pre_finite_scores,
    Cert.Frames.ScoresReferenceIdeal,
    Cert.Frames.ScoresReferenceIdeal_pre_finite_scores,
    trivial,
    Cert.Attn.algebraic,
    trivial,
    Cert.Vals.Project.algebraic,
    trivial,
    Cert.Vals.Rope.algebraic,
    trivial,
    Cert.Vals.Merge.algebraic,
    trivial,
    Cert.Vals.Query.algebraic,
    trivial,
    Cert.Vals.Conv.algebraic,
    trivial,
    Cert.Vals.Experts.algebraic,
    trivial,
    Cert.Vals.Scores.algebraic⟩

end Cert.Proof

end
